-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![1024, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v59) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S256x256 : Shape := ⟨2, ![256, 256]⟩
abbrev S257x256 : Shape := ⟨2, ![257, 256]⟩
abbrev S3x257x256 : Shape := ⟨3, ![3, 257, 256]⟩
abbrev S3 : Shape := ⟨1, ![3]⟩
abbrev S_ : Shape := ⟨0, ![]⟩
abbrev S256 : Shape := ⟨1, ![256]⟩
abbrev S1x256 : Shape := ⟨2, ![1, 256]⟩
abbrev S1x128x256 : Shape := ⟨3, ![1, 128, 256]⟩
abbrev S128x256 : Shape := ⟨2, ![128, 256]⟩
abbrev S1 : Shape := ⟨1, ![1]⟩
abbrev S1x257x256 : Shape := ⟨3, ![1, 257, 256]⟩
abbrev S1x1x256 : Shape := ⟨3, ![1, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S256x1, .i32⟩
  | .local _ .vmem, ⟨2, _⟩ => ⟨S2x128x256, .bf16⟩
  | .local _ .vmem, ⟨3, _⟩ => ⟨S256x256, .f32⟩
  | .local _ .vmem, ⟨4, _⟩ => ⟨S257x256, .bf16⟩
  | .local _ .vmem, ⟨5, _⟩ => ⟨S3x257x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v70 : BitVec 32 := Scalar.addi v2 c1_i32_43
  let c4_i32_44 : BitVec 32 := 4#32
  let c0_i32_45 : BitVec 32 := 0#32
  let v71 : BitVec 1 := Scalar.cmpi .eq c4_i32_44 c0_i32_45
  let c1_i32_46 : BitVec 32 := 1#32
  let v72 : BitVec 32 := Scalar.select v71 c1_i32_46 c4_i32_44
  let v73 : BitVec 32 := Scalar.remsi v70 v72
  let c0_i32_48 : BitVec 32 := 0#32
  let v75 : BitVec 1 := Scalar.cmpi .slt v73 c0_i32_48
  let c0_i32_49 : BitVec 32 := 0#32
  let v76 : BitVec 1 := Scalar.cmpi .slt v72 c0_i32_49
  let v77 : BitVec 1 := Scalar.xori v75 v76
  let c0_i32_47 : BitVec 32 := 0#32
  let v74 : BitVec 1 := Scalar.cmpi .ne v73 c0_i32_47
  let v78 : BitVec 1 := Scalar.andi v77 v74
  let v79 : BitVec 32 := Scalar.addi v73 v72
  let v80 : BitVec 32 := Scalar.select v78 v79 v73
  let c1_i32_53 : BitVec 32 := 1#32
  let v81 : BitVec 32 := Scalar.muli v80 c1_i32_53
  let v82 : BitVec 32 := Scalar.addi c0_i32_54 v81
  v82.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_57 : BitVec 32 := 2#32
  let v89 : BitVec 32 := Scalar.addi v2 c2_i32_57
  let c4_i32_58 : BitVec 32 := 4#32
  let c0_i32_59 : BitVec 32 := 0#32
  let v90 : BitVec 1 := Scalar.cmpi .eq c4_i32_58 c0_i32_59
  let c1_i32_60 : BitVec 32 := 1#32
  let v91 : BitVec 32 := Scalar.select v90 c1_i32_60 c4_i32_58
  let v92 : BitVec 32 := Scalar.remsi v89 v91
  let c0_i32_62 : BitVec 32 := 0#32
  let v94 : BitVec 1 := Scalar.cmpi .slt v92 c0_i32_62
  let c0_i32_63 : BitVec 32 := 0#32
  let v95 : BitVec 1 := Scalar.cmpi .slt v91 c0_i32_63
  let v96 : BitVec 1 := Scalar.xori v94 v95
  let c0_i32_61 : BitVec 32 := 0#32
  let v93 : BitVec 1 := Scalar.cmpi .ne v92 c0_i32_61
  let v97 : BitVec 1 := Scalar.andi v96 v93
  let v98 : BitVec 32 := Scalar.addi v92 v91
  let v99 : BitVec 32 := Scalar.select v97 v98 v92
  let c1_i32_67 : BitVec 32 := 1#32
  let v100 : BitVec 32 := Scalar.muli v99 c1_i32_67
  let v101 : BitVec 32 := Scalar.addi c0_i32_68 v100
  v101.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v108 : BitVec 32 := Scalar.addi v2 c3_i32_71
  let c4_i32_72 : BitVec 32 := 4#32
  let c0_i32_73 : BitVec 32 := 0#32
  let v109 : BitVec 1 := Scalar.cmpi .eq c4_i32_72 c0_i32_73
  let c1_i32_74 : BitVec 32 := 1#32
  let v110 : BitVec 32 := Scalar.select v109 c1_i32_74 c4_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_81 : BitVec 32 := 1#32
  let v119 : BitVec 32 := Scalar.muli v118 c1_i32_81
  let v120 : BitVec 32 := Scalar.addi c0_i32_82 v119
  v120.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x128 : Shape := ⟨2, ![1024, 128]⟩
abbrev S128x8 : Shape := ⟨2, ![128, 8]⟩
abbrev S1024x1 : Shape := ⟨2, ![1024, 1]⟩
abbrev S8x128x256 : Shape := ⟨3, ![8, 128, 256]⟩
abbrev S8 : Shape := ⟨1, ![8]⟩
abbrev S1x8 : Shape := ⟨2, ![1, 8]⟩
abbrev S1024x8 : Shape := ⟨2, ![1024, 8]⟩
abbrev S_ : Shape := ⟨0, ![]⟩
abbrev S1024x256 : Shape := ⟨2, ![1024, 256]⟩
abbrev S1x128x256 : Shape := ⟨3, ![1, 128, 256]⟩
abbrev S128x256 : Shape := ⟨2, ![128, 256]⟩

abbrev nBuf : Space → Nat
  | .hbm => 100
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S128x8, .bf16⟩
  | .hbm, ⟨2, _⟩ => ⟨S1024x1, .i32⟩
  | .hbm, ⟨3, _⟩ => ⟨S8x128x256, .bf16⟩
  | .hbm, ⟨4, _⟩ => ⟨S8, .i32⟩
  | .hbm, ⟨5, _⟩ => ⟨S1x8, .i32⟩
  | .hbm, ⟨6, _⟩ => ⟨S1024x8, .i32⟩
  | .hbm, ⟨7, _⟩ => ⟨S1024x8, .i32⟩
  | .hbm, ⟨8, _⟩ => ⟨S1024x8, .i1⟩
  | .hbm, ⟨9, _⟩ => ⟨S1024x8, .i32⟩
  | .hbm, ⟨10, _⟩ => ⟨S_, .i32⟩
  | .hbm, ⟨11, _⟩ => ⟨S_, .i32⟩
  | .hbm, ⟨12, _⟩ => ⟨S1024x8, .i32⟩
  | .hbm, ⟨13, _⟩ => ⟨S1024x8, .i32⟩
  | .hbm, ⟨14, _⟩ => ⟨S_, .i32⟩
  | .hbm, ⟨15, _⟩ => ⟨S1024x8, .i32⟩
  | .hbm, ⟨16, _⟩ => ⟨S1024x8, .i1⟩
  | .hbm, ⟨17, _⟩ => ⟨S1024x8, .i1⟩
  | .hbm, ⟨18, _⟩ => ⟨S_, .f32⟩
  | .hbm, ⟨19, _⟩ => ⟨S1024x256, .f32⟩
  | .hbm, ⟨20, _⟩ => ⟨S1x128x256, .bf16⟩
  | .hbm, ⟨21, _⟩ => ⟨S128x256, .bf16⟩
  | .hbm, ⟨22, _⟩ => ⟨S1024x256, .f32⟩
  | .hbm, ⟨23, _⟩ => ⟨S1024x1, .i1⟩
  | .hbm, ⟨24, _⟩ => ⟨S_, .f32⟩
  | .hbm, ⟨25, _⟩ => ⟨S_, .f32⟩
  | .hbm, ⟨26, _⟩ => ⟨S1024x256, .i1⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S1x128x256, .bf16⟩
  | .hbm, ⟨31, _⟩ => ⟨S128x256, .bf16⟩
  | .hbm, ⟨32, _⟩ => ⟨S1024x256, .f32⟩
  | .hbm, ⟨33, _⟩ => ⟨S1024x1, .i1⟩
  | .hbm, ⟨34, _⟩ => ⟨S_, .f32⟩
  | .hbm, ⟨35, _⟩ => ⟨S_, .f32⟩
  | .hbm, ⟨36, _⟩ => ⟨S1024x256, .i1⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S1x128x256, .bf16⟩
  | .hbm, ⟨41, _⟩ => ⟨S128x256, .bf16⟩
  | .hbm, ⟨42, _⟩ => ⟨S1024x256, .f32⟩
  | .hbm, ⟨43, _⟩ => ⟨S1024x1, .i1⟩
  | .hbm, ⟨44, _⟩ => ⟨S_, .f32⟩
  | .hbm, ⟨45, _⟩ => ⟨S_, .f32⟩
  | .hbm, ⟨46, _⟩ => ⟨S1024x256, .i1⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S1x128x256, .bf16⟩
  | .hbm, ⟨51, _⟩ => ⟨S128x256, .bf16⟩
  | .hbm, ⟨52, _⟩ => ⟨S1024x256, .f32⟩
  | .hbm, ⟨53, _⟩ => ⟨S1024x1, .i1⟩
  | .hbm, ⟨54, _⟩ => ⟨S_, .f32⟩
  | .hbm, ⟨55, _⟩ => ⟨S_, .f32⟩
  | .hbm, ⟨56, _⟩ => ⟨S1024x256, .i1⟩
  | .hbm, ⟨57, _⟩ => ⟨S1024x256, .f32⟩
  | .hbm, ⟨58, _⟩ => ⟨S1024x256, .f32⟩
  | .hbm, ⟨59, _⟩ => ⟨S1024x256, .f32⟩
  | .hbm, ⟨60, _⟩ => ⟨S1x128x256, .bf16⟩
  | .hbm, ⟨61, _⟩ => ⟨S128x256, .bf16⟩
  | .hbm, ⟨62, _⟩ => ⟨S1024x256, .f32⟩
  | .hbm, ⟨63, _⟩ => ⟨S1024x1, .i1⟩
  | .hbm, ⟨64, _⟩ => ⟨S_, .f32⟩
  | .hbm, ⟨65, _⟩ => ⟨S_, .f32⟩
  | .hbm, ⟨66, _⟩ => ⟨S1024x256, .i1⟩
  | .hbm, ⟨67, _⟩ => ⟨S1024x256, .f32⟩
  | .hbm, ⟨68, _⟩ => ⟨S1024x256, .f32⟩
  | .hbm, ⟨69, _⟩ => ⟨S1024x256, .f32⟩
  | .hbm, ⟨70, _⟩ => ⟨S1x128x256, .bf16⟩
  | .hbm, ⟨71, _⟩ => ⟨S128x256, .bf16⟩
  | .hbm, ⟨72, _⟩ => ⟨S1024x256, .f32⟩
  | .hbm, ⟨73, _⟩ => ⟨S1024x1, .i1⟩
  | .hbm, ⟨74, _⟩ => ⟨S_, .f32⟩
  | .hbm, ⟨75, _⟩ => ⟨S_, .f32⟩
  | .hbm, ⟨76, _⟩ => ⟨S1024x256, .i1⟩
  | .hbm, ⟨77, _⟩ => ⟨S1024x256, .f32⟩
  | .hbm, ⟨78, _⟩ => ⟨S1024x256, .f32⟩
  | .hbm, ⟨79, _⟩ => ⟨S1024x256, .f32⟩
  | .hbm, ⟨80, _⟩ => ⟨S1x128x256, .bf16⟩
  | .hbm, ⟨81, _⟩ => ⟨S128x256, .bf16⟩
  | .hbm, ⟨82, _⟩ => ⟨S1024x256, .f32⟩
  | .hbm, ⟨83, _⟩ => ⟨S1024x1, .i1⟩
  | .hbm, ⟨84, _⟩ => ⟨S_, .f32⟩
  | .hbm, ⟨85, _⟩ => ⟨S_, .f32⟩
  | .hbm, ⟨86, _⟩ => ⟨S1024x256, .i1⟩
  | .hbm, ⟨87, _⟩ => ⟨S1024x256, .f32⟩
  | .hbm, ⟨88, _⟩ => ⟨S1024x256, .f32⟩
  | .hbm, ⟨89, _⟩ => ⟨S1024x256, .f32⟩
  | .hbm, ⟨90, _⟩ => ⟨S1x128x256, .bf16⟩
  | .hbm, ⟨91, _⟩ => ⟨S128x256, .bf16⟩
  | .hbm, ⟨92, _⟩ => ⟨S1024x256, .f32⟩
  | .hbm, ⟨93, _⟩ => ⟨S1024x1, .i1⟩
  | .hbm, ⟨94, _⟩ => ⟨S_, .f32⟩
  | .hbm, ⟨95, _⟩ => ⟨S_, .f32⟩
  | .hbm, ⟨96, _⟩ => ⟨S1024x256, .i1⟩
  | .hbm, ⟨97, _⟩ => ⟨S1024x256, .f32⟩
  | .hbm, ⟨98, _⟩ => ⟨S1024x256, .f32⟩
  | .hbm, ⟨99, _⟩ => ⟨S1024x256, .f32⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_call6_v0 : Ref sig .tc := ⟨.hbm, 75, rfl⟩
abbrev main_call6_v1 : Ref sig .tc := ⟨.hbm, 76, rfl⟩
abbrev main_call6_v2 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_call7_v0 : Ref sig .tc := ⟨.hbm, 85, rfl⟩
abbrev main_call7_v1 : Ref sig .tc := ⟨.hbm, 86, rfl⟩
abbrev main_call7_v2 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_7 : Ref sig .tc := ⟨.hbm, 94, rfl⟩
abbrev main_call8_v0 : Ref sig .tc := ⟨.hbm, 95, rfl⟩
abbrev main_call8_v1 : Ref sig .tc := ⟨.hbm, 96, rfl⟩
abbrev main_call8_v2 : Ref sig .tc := ⟨.hbm, 97, rfl⟩
abbrev main_v58 : Ref sig .tc := ⟨.hbm, 98, rfl⟩
abbrev main_v59 : Ref sig .tc := ⟨.hbm, 99, rfl⟩

abbrev nD : Nat := 1
abbrev τ : Topo := Topo.v7x

variable {F : FTy → Type} [FloatOps F]
-- ==== Proof.KernelIdealMesh.lean ====
/-
The four devices, their semaphore cells, and what the exchange moves.

Every device sends the same staged block to each of the three others, so the natural index is a pair
(device `c`, step `j : Fin 3`): step `j` of device `c` reaches the device `j + 1` places further round the
mesh, and lands in that device's slot `2 - j`.  `peer` is this map on pairs; it is its own inverse, which is
the only fact about the mesh that the protocol uses: slot `j` of device `c` is filled by the device that step
`j` of `c` reaches.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Launch
public import Idealize.ShloMosaic.Lib.Pipeline.Kit
public import Idealize.ShloMosaic.Lib.Ring
public import Idealize.ShloMosaic.Lib.Pointwise.Reshape
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices and steps -/

set_option backward.proofsInPublic true in
/-- The device `j + 1` places after `c`. -/
def fwd (j : Fin 3) (c : Dev nD) : Dev nD := ⟨(c.val + j.val + 1) % 4, Nat.mod_lt _ (by decide)⟩

/-- The step that leads back: `2 - j`. -/
def opp (j : Fin 3) : Fin 3 := ⟨2 - j.val, by omega⟩

theorem opp_opp (j : Fin 3) : opp (opp j) = j := by revert j; decide
theorem fwd_opp (j : Fin 3) (c : Dev nD) : fwd (opp j) (fwd j c) = c := by revert j c; decide

/-- Where step `j` of device `c` arrives: the device, and the slot (and the barrier duty) there. -/
def peer (p : Dev nD × Fin 3) : Dev nD × Fin 3 := (fwd p.2 p.1, opp p.2)

theorem peer_peer (p : Dev nD × Fin 3) : peer (peer p) = p := by
  obtain ⟨c, j⟩ := p
  exact Prod.ext (fwd_opp j c) (opp_opp j)

/-- The exchange as a permutation of (device, step). -/
def peerEquiv : (Dev nD × Fin 3) ≃ (Dev nD × Fin 3) := ⟨peer, peer, peer_peer, peer_peer⟩

/-- The devices the kernel computes for its three signals and its three copies. -/
theorem dev1_eq (c : Dev nD) : (⟨k0_dev1 c, k0_dev1_lt c⟩ : Dev nD) = fwd 0 c := by revert c; decide
theorem dev2_eq (c : Dev nD) : (⟨k0_dev2 c, k0_dev2_lt c⟩ : Dev nD) = fwd 1 c := by revert c; decide
theorem dev3_eq (c : Dev nD) : (⟨k0_dev3 c, k0_dev3_lt c⟩ : Dev nD) = fwd 2 c := by revert c; decide
theorem dev4_eq (c : Dev nD) : (⟨k0_dev4 c, k0_dev4_lt c⟩ : Dev nD) = fwd 0 c := by revert c; decide
theorem dev5_eq (c : Dev nD) : (⟨k0_dev5 c, k0_dev5_lt c⟩ : Dev nD) = fwd 1 c := by revert c; decide
theorem dev6_eq (c : Dev nD) : (⟨k0_dev6 c, k0_dev6_lt c⟩ : Dev nD) = fwd 2 c := by revert c; decide

/-! ## Buffers -/

abbrev xM : Memref sig .tc .vmem S256x128 .bf16 := Memref.whole cc0_stg0_0
abbrev rtM : Memref sig .tc .vmem S256x1 .i32 := Memref.whole cc0_stg1_0
abbrev ewM : Memref sig .tc .vmem S2x128x256 .bf16 := Memref.whole cc0_stg2_0
abbrev oM : Memref sig .tc .vmem S256x256 .f32 := Memref.whole cc0_stg3_0
abbrev stM : Memref sig .tc .vmem S257x256 .bf16 := Memref.whole cc0_scratch0
abbrev rbM : Memref sig .tc .vmem S3x257x256 .bf16 := Memref.whole cc0_scratch1

theorem inb_slot (j : Fin 3) : ∀ a, (![j.val, 0, 0] : Fin 3 → Nat) a + S1x257x256.size a ≤ S3x257x256.size a := by
  revert j; decide

/-- Slot `j` of the receive buffer, as the copies and their waits name it. -/
abbrev slotM (j : Fin 3) : Memref sig .tc .vmem S257x256 .bf16 :=
  (rbM.slice (Rect.unit (s := S3x257x256) ![j.val, 0, 0] S1x257x256.size (inb_slot j)) (fun _ => rfl)).squeeze S257x256
    squeezes_S1x257x256_S257x256

/-! ## Semaphore cells -/

theorem inb_sem (j : Fin 3) : ∀ a, (![j.val] : Fin 1 → Nat) a + S1.size a ≤ S3.size a := by revert j; decide

/-- The barrier semaphore, the semaphore of the `j`-th send, the semaphore of arrivals in slot `j`. -/
abbrev barS : Sem sig := (SemArray.scalar (sig.barrier 0 rfl) : Sems sig S_).sem
abbrev sendS (j : Fin 3) : DmaSem sig :=
  ((cc0_scratch2.slice (Rect.unit (s := S3) ![j.val] S1.size (inb_sem j)) : DmaSems sig S1).squeeze S_ squeezes_S1_S_).sem
abbrev recvS (j : Fin 3) : DmaSem sig :=
  ((cc0_scratch3.slice (Rect.unit (s := S3) ![j.val] S1.size (inb_sem j)) : DmaSems sig S1).squeeze S_ squeezes_S1_S_).sem

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The kernel's own six semaphores, and all seven of the exchange. -/
abbrev osem : Fin 6 → SemLoc sig := fun
  | 0 => .dma (sendS 0) | 1 => .dma (sendS 1) | 2 => .dma (sendS 2)
  | 3 => .dma (recvS 0) | 4 => .dma (recvS 1) | 5 => .dma (recvS 2)
abbrev csem : Fin 7 → SemLoc sig := fun
  | 0 => .reg barS
  | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

abbrev kSend (j : Fin 3) : Fin 7 := ⟨j.val + 1, by omega⟩
abbrev kRecv (j : Fin 3) : Fin 7 := ⟨j.val + 4, by omega⟩

theorem kcell_send (c : Dev nD) (j : Fin 3) : kcell (c, kSend j) = sendCell c j := by fin_cases j <;> rfl
theorem kcell_recv (c : Dev nD) (j : Fin 3) : kcell (c, kRecv j) = recvCell c j := by fin_cases j <;> rfl

theorem send_ne_bar (j : Fin 3) : (SemLoc.dma (sendS j) : SemLoc sig) ≠ .reg barS := fun h => by cases h
theorem recv_ne_bar (j : Fin 3) : (SemLoc.dma (recvS j) : SemLoc sig) ≠ .reg barS := fun h => by cases h
theorem recv_inj {j k : Fin 3} : (SemLoc.dma (recvS j) : SemLoc sig) = .dma (recvS k) → j = k := by revert j k; decide
theorem send_inj {j k : Fin 3} : (SemLoc.dma (sendS j) : SemLoc sig) = .dma (sendS k) → j = k := by revert j k; decide
theorem send_ne_recv (j k : Fin 3) : (SemLoc.dma (sendS j) : SemLoc sig) ≠ .dma (recvS k) := by revert j k; decide

/-- The credit of one landed block. -/
abbrev N : ℕ := (stM : Memref sig .tc .vmem S257x256 .bf16).view.dmaCredit
theorem N_pos : 0 < N := View.dmaCredit_pos _ (by decide)

/-! ## The slots cut the receive buffer in three -/

theorem slot_mem (j : Fin 3) (i : S3x257x256.Idx) : i ∈ (slotM j).view.set ↔ i 0 = j := by
  have h : (slotM j).view.set = (Rect.unit (s := S3x257x256) ![j.val, 0, 0] S1x257x256.size (inb_slot j)).set := by
    refine (View.set_reshape _ _).trans ?_
    exact View.set_slice_whole _ _
  rw [h, Rect.mem_set_unit]
  constructor
  · intro hi
    have := hi 0
    simp only [Matrix.cons_val_zero] at this
    exact Fin.ext (by have h2 : S1x257x256.size 0 = 1 := rfl; omega)
  · rintro rfl a
    have h1 := (i 1).isLt
    have h2 := (i 2).isLt
    fin_cases a
    · exact ⟨le_refl _, Nat.lt_succ_self _⟩
    · exact ⟨Nat.zero_le _, by simpa using h1⟩
    · exact ⟨Nat.zero_le _, by simpa using h2⟩

theorem slot_disjoint (j k : Fin 3) (h : j ≠ k) : Disjoint (slotM j).view.set (slotM k).view.set := by
  rw [Finset.disjoint_left]
  intro i hj hk
  exact h (((slot_mem j i).mp hj).symm.trans ((slot_mem k i).mp hk))

theorem slot_cover : Finset.univ.biUnion (fun j : Fin 3 => (slotM j).view.set) = (Finset.univ : Finset S3x257x256.Idx) := by
  ext i
  simp only [Finset.mem_biUnion, Finset.mem_univ, true_and, iff_true]
  exact ⟨i 0, (slot_mem _ i).mpr rfl⟩

/-- The index of the receive buffer where the landed block has its element `y`. -/
theorem slot_emb (j : Fin 3) (y : S257x256.Idx) (i : S3x257x256.Idx) (h0 : i 0 = j) (h1 : (i 1).val = (y 0).val)
    (h2 : (i 2).val = (y 1).val) : (slotM j).view.emb y = i := by
  have hz : Shape.reshapeEquiv (squeezes_S1x257x256_S257x256).numel_eq y
      = (fun a => match a with | 0 => ⟨0, by decide⟩ | 1 => ⟨(y 0).val, (y 0).isLt⟩ | 2 => ⟨(y 1).val, (y 1).isLt⟩ : S1x257x256.Idx) := by
    refine Shape.reshapeEquiv_eq_of_rowMajor _ ?_
    simp [Shape.rowMajor_val_two, Shape.rowMajor_val_three]
  show (Rect.unit (s := S3x257x256) ![j.val, 0, 0] S1x257x256.size (inb_slot j)).emb
    (Shape.reshapeEquiv (squeezes_S1x257x256_S257x256).numel_eq y) = i
  rw [hz]
  funext a
  apply Fin.ext
  fin_cases a
  · simp [Rect.emb, Rect.unit, ← h0]
  · simp [Rect.emb, Rect.unit, h1]
  · simp [Rect.emb, Rect.unit, h2]

end Cert.KernelIdeal.Exchange

end
-- ==== Proof.KernelIdealRounds.lean ====
/-
What the exchange hands over, who pays it, and in which order it may be waited for.

Every semaphore is used for one round only.

* Barrier cell of `c`, waited for once, three units.  Duty `s` is one unit, signalled by the device that step
  `s` of `c` reaches; it hands over the slot of that device in which `c`'s block will land, and that the
  device is at the first round of that slot's arrival cell.  So no copy starts before its destination is free.
* Arrival cell `s` of `c`, waited for once: one duty, the credit of a block, paid by the copy into slot `s`.
  It hands over slot `s` holding the block staged by the device that step `s` of `c` reaches.
* Send cell `j` of `c`, waited for once: one duty, the credit of a block, paid by `c`'s own `j`-th copy.  It
  hands back the share of the staged block that the copy was reading.

The staged block is read by three copies at once, and by the kernel itself while they run: it is held in four
shares, one per copy and one for the loads.
-/
module

public import proofs.«01_k».proof.Proof.KernelIdealMesh

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two ghost components: the pipeline's own rounds, and the exchange's with duties `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Contents -/

/-- Device `c`'s tokens, routes and experts, as its staging buffers hold them. -/
def xAt (c : Dev nD) : (cc0_stg0_0 : Ref sig .tc).ty.Contents (Elt F) :=
  (win0_0.blk (0 : Fin 1)).view.read (Elt F) (m ((c : Thread nD τ).loc main_arg0))
def rtAt (c : Dev nD) : (cc0_stg1_0 : Ref sig .tc).ty.Contents (Elt F) :=
  (win0_1.blk (0 : Fin 1)).view.read (Elt F) (m ((c : Thread nD τ).loc main_arg2))
def ewAt (c : Dev nD) : (cc0_stg2_0 : Ref sig .tc).ty.Contents (Elt F) :=
  (win0_2.blk (0 : Fin 1)).view.read (Elt F) (m ((c : Thread nD τ).loc main_arg3))

/-- One of the two experts of a device, as the kernel loads it from its experts' buffer. -/
def ewRead0 (w : (cc0_stg2_0 : Ref sig .tc).ty.Contents (Elt F)) : Vec F S1x128x256 .bf16 :=
  (ewM : Memref sig .tc .vmem S2x128x256 .bf16).view.readAt (Elt F) (Rect.unit (s := S2x128x256) ![0, 0, 0] S1x128x256.size inb_S2x128x256_S1x128x256_0_0_0).toLoadRect w
def ewRead1 (w : (cc0_stg2_0 : Ref sig .tc).ty.Contents (Elt F)) : Vec F S1x128x256 .bf16 :=
  (ewM : Memref sig .tc .vmem S2x128x256 .bf16).view.readAt (Elt F) (Rect.unit (s := S2x128x256) ![1, 0, 0] S1x128x256.size inb_S2x128x256_S1x128x256_1_0_0).toLoadRect w

/-- Two experts' matrices, one above the other. -/
def stack (a b : Vec F S128x256 .bf16) : Vec F S256x256 .bf16 := fun y =>
  if h : (y 0).val < 128 then a (ix2 (⟨(y 0).val, h⟩ : Fin 128) (y 1 : Fin 256))
  else b (ix2 (⟨(y 0).val - 128, by have : (y 0).val < 256 := (y 0).isLt; omega⟩ : Fin 128) (y 1 : Fin 256))

/-- The block device `c` stages and sends: its two experts and its histogram row. -/
def stageAt (c : Dev nD) : (cc0_scratch0 : Ref sig .tc).ty.Contents (Elt F) :=
  k0_pay8 (k0_pay5 (rtAt m c)) (stack (k0_pay6 (ewRead0 (ewAt m c))) (k0_pay7 (ewRead1 (ewAt m c))))

/-- Slot `s` of device `c` at contents `f`. -/
def slotPts (c : Dev nD) (s : Fin 3) (f : Buf (Elt F) ((c : Thread nD τ).loc cc0_scratch1)) : sProp 𝕄 :=
  (slotM s).view.loc (c : Thread nD τ) ↦[(slotM s).view.set]{fullShare} f

/-- The staged block of device `c`, share `q` of it. -/
def stPts (c : Dev nD) (q : PosShare TreeShare) (f : Buf (Elt F) ((c : Thread nD τ).loc cc0_scratch0)) : sProp 𝕄 :=
  (stM : Memref sig .tc .vmem S257x256 .bf16).view.loc (c : Thread nD τ) ↦[(stM : Memref sig .tc .vmem S257x256 .bf16).view.set]{q} f

omit [FloatOps F] in
instance slotPts_storable (c : Dev nD) (s : Fin 3) (f) : BI.Storable (upEmb : UEmb _ 𝕄) (slotPts (F := F) c s f) := by
  unfold slotPts; infer_instance
omit [FloatOps F] in
instance stPts_storable (c : Dev nD) (q f) : BI.Storable (upEmb : UEmb _ 𝕄) (stPts (F := F) c q f) := by
  unfold stPts; infer_instance

/-- Slot `s` after the staged block `v` landed in it. -/
def landed (s : Fin 3) (f : (cc0_scratch1 : Ref sig .tc).ty.Contents (Elt F)) (v : (cc0_scratch0 : Ref sig .tc).ty.Contents (Elt F)) :
    (cc0_scratch1 : Ref sig .tc).ty.Contents (Elt F) :=
  (slotM s).view.write (Elt F) f ((stM : Memref sig .tc .vmem S257x256 .bf16).view.read (Elt F) v) Finset.univ

/-- The share of the staged block lent to the `j`-th copy, and the share kept for the loads. -/
def lent : Fin 3 → PosShare TreeShare := fun
  | 0 => fullShare.left.left | 1 => fullShare.left.right | 2 => fullShare.right.left
def kept : PosShare TreeShare := fullShare.right.right

omit [FloatOps F] in
/-- The whole staged block is its four shares. -/
theorem stPts_shares (c : Dev nD) (f) :
    (stPts c fullShare f : sProp 𝕄) ⊣⊢ iprop((stPts c (lent 0) f ∗ stPts c (lent 1) f) ∗ (stPts c (lent 2) f ∗ stPts c kept f)) := by
  have h1 := pointsTo_share (nD := nD) (τ := τ) (sig := sig) (Ix := Unit) (Val := Elt F) (Name := ℕ) (U := UU) (Lvl := ℕ)
    (ℓ := (c : Thread nD τ).loc cc0_scratch0) (I := (stM : Memref sig .tc .vmem S257x256 .bf16).view.set) (f := f) (PosShare.mem_left_op_right fullShare)
  have h2 := pointsTo_share (nD := nD) (τ := τ) (sig := sig) (Ix := Unit) (Val := Elt F) (Name := ℕ) (U := UU) (Lvl := ℕ)
    (ℓ := (c : Thread nD τ).loc cc0_scratch0) (I := (stM : Memref sig .tc .vmem S257x256 .bf16).view.set) (f := f) (PosShare.mem_left_op_right fullShare.left)
  have h3 := pointsTo_share (nD := nD) (τ := τ) (sig := sig) (Ix := Unit) (Val := Elt F) (Name := ℕ) (U := UU) (Lvl := ℕ)
    (ℓ := (c : Thread nD τ).loc cc0_scratch0) (I := (stM : Memref sig .tc .vmem S257x256 .bf16).view.set) (f := f) (PosShare.mem_left_op_right fullShare.right)
  exact ⟨h1.1.trans (BI.sep_mono h2.1 h3.1), (BI.sep_mono h2.2 h3.2).trans h1.2⟩

omit [FloatOps F] in
theorem stPts_whole (c : Dev nD) (f : Buf (Elt F) ((c : Thread nD τ).loc cc0_scratch0)) :
    stPts c fullShare f = (((c : Thread nD τ).loc cc0_scratch0) ↦{fullShare} f : sProp 𝕄) := by
  unfold stPts; rw [View.set_whole]

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem slotPts_eq (c : Dev nD) (s : Fin 3) (f : Buf (Elt F) ((c : Thread nD τ).loc cc0_scratch1)) :
    (slotPts c s f : sProp 𝕄) = (((c : Thread nD τ).loc cc0_scratch1) ↦[(slotM s).view.set]{fullShare} f) := rfl

omit [FloatOps F] in
/-- The receive buffer is its three slots; -/
theorem slots_split (c : Dev nD) (f : Buf (Elt F) ((c : Thread nD τ).loc cc0_scratch1)) :
    (((c : Thread nD τ).loc cc0_scratch1) ↦{fullShare} f : sProp 𝕄) = iprop(slotPts c 0 f ∗ slotPts c 1 f ∗ slotPts c 2 f) := by
  rw [Ring.pointsTo_blocks (ℓ := (c : Thread nD τ).loc cc0_scratch1) (fun s : Fin 3 => (slotM s).view.set) slot_disjoint slot_cover f, bigSep_fin3,
    slotPts_eq, slotPts_eq, slotPts_eq]
omit [FloatOps F] in
/-- and three slots, each at contents of its own, are the buffer at some contents. -/
theorem slots_join (c : Dev nD) (fs : Fin 3 → Buf (Elt F) ((c : Thread nD τ).loc cc0_scratch1)) :
    iprop(slotPts c 0 (fs 0) ∗ slotPts c 1 (fs 1) ∗ slotPts c 2 (fs 2)) ⊢ (iprop(∃ f, ((c : Thread nD τ).loc cc0_scratch1) ↦{fullShare} f) : sProp 𝕄) := by
  have h := Ring.pointsTo_blocks_join (ℓ := (c : Thread nD τ).loc cc0_scratch1) (Ix := Unit) (Name := ℕ) (U := UU) (Lvl := ℕ) (q := fullShare)
    (fun s : Fin 3 => (slotM s).view.set) slot_disjoint slot_cover fs (fs 0)
  rw [bigSep_fin3] at h
  rw [slotPts_eq, slotPts_eq, slotPts_eq]
  exact h

/-! ## The schedule -/

/-- What the signal of step `s`'s device hands `c`: the slot of that device that `c`'s copy `s` fills. -/
def barPay (c : Dev nD) (s : Fin 3) : sProp 𝕄 :=
  iprop((∃ f, slotPts (fwd s c) (opp s) f) ∗ reached ER (recvCell (fwd s c) (opp s)) 0)
def recvPay (c : Dev nD) (s : Fin 3) : sProp 𝕄 := iprop(∃ f, slotPts c s (landed s f (stageAt m (fwd s c))))
def sendPay (c : Dev nD) (j : Fin 3) : sProp 𝕄 := stPts c (lent j) (stageAt m c)

abbrev IsBar (g : GSem nD τ sig) : Prop := g.1.2 = .tc ∧ g.2 = .reg barS
abbrev IsXfer (g : GSem nD τ sig) : Prop := g.1.2 = .tc ∧ ((∃ j, g.2 = .dma (sendS j)) ∨ (∃ j, g.2 = .dma (recvS j)))

def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvS 0) then recvPay m g.1.1 0
    else if g.2 = .dma (recvS 1) then recvPay m g.1.1 1
    else if g.2 = .dma (recvS 2) then recvPay m g.1.1 2
    else if g.2 = .dma (sendS 0) then sendPay m g.1.1 0
    else if g.2 = .dma (sendS 1) then sendPay m g.1.1 1
    else if g.2 = .dma (sendS 2) then sendPay m g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m).payload g r d) := by
  dsimp only [sched]
  unfold barPay recvPay sendPay
  (repeat' split) <;> infer_instance

section Tables
variable (c : Dev nD) (j : Fin 3)

theorem duties_bar : (sched (F := F) m).duties (barCell c) 0 = Finset.univ := by dsimp only [sched]; exact if_pos ⟨rfl, rfl, rfl⟩
theorem duties_send : (sched (F := F) m).duties (sendCell c j) 0 = {0} := by
  dsimp only [sched]; rw [if_neg (fun h => send_ne_bar j h.2.2)]; exact if_pos ⟨rfl, rfl, .inl ⟨j, rfl⟩⟩
theorem duties_recv : (sched (F := F) m).duties (recvCell c j) 0 = {0} := by
  dsimp only [sched]; rw [if_neg (fun h => recv_ne_bar j h.2.2)]; exact if_pos ⟨rfl, rfl, .inr ⟨j, rfl⟩⟩
theorem duties_later (g : GSem nD τ sig) : ∀ r, 1 ≤ r → (sched (F := F) m).duties g r = ∅ :=
  fun r hr => by dsimp only [sched]; rw [if_neg fun h => by omega, if_neg fun h => by omega]

theorem amount_bar (d : Fin 3) : (sched (F := F) m).amount (barCell c) 0 d = 1 := by dsimp only [sched]; exact if_pos rfl
theorem amount_send (d : Fin 3) : (sched (F := F) m).amount (sendCell c j) 0 d = N := by dsimp only [sched]; exact if_neg (send_ne_bar j)
theorem amount_recv (d : Fin 3) : (sched (F := F) m).amount (recvCell c j) 0 d = N := by dsimp only [sched]; exact if_neg (recv_ne_bar j)

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (d : Fin 3) : (sched (F := F) m).payload (barCell c) 0 d = barPay c d := by dsimp only [sched]; exact if_pos rfl
theorem payload_recv (d : Fin 3) : (sched (F := F) m).payload (recvCell c j) 0 d = recvPay m c j := by
  dsimp only [sched]
  rw [if_neg (recv_ne_bar j)]
  fin_cases j
  · exact if_pos rfl
  · exact (if_neg (fun h => absurd (recv_inj h) (by decide))).trans (if_pos rfl)
  · exact (if_neg (fun h => absurd (recv_inj h) (by decide))).trans ((if_neg (fun h => absurd (recv_inj h) (by decide))).trans (if_pos rfl))
theorem payload_send (d : Fin 3) : (sched (F := F) m).payload (sendCell c j) 0 d = sendPay m c j := by
  dsimp only [sched]
  rw [if_neg (send_ne_bar j), if_neg (send_ne_recv j 0), if_neg (send_ne_recv j 1), if_neg (send_ne_recv j 2)]
  fin_cases j
  · exact if_pos rfl
  · exact (if_neg (fun h => absurd (send_inj h) (by decide))).trans (if_pos rfl)
  · exact (if_neg (fun h => absurd (send_inj h) (by decide))).trans ((if_neg (fun h => absurd (send_inj h) (by decide))).trans (if_pos rfl))

theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_congr (fun d _ => payload_bar m c d), bigSep_fin3]
theorem rest_send : bigSep ((sched (F := F) m).duties (sendCell c j) 0 \ ∅) (fun d => (sched (F := F) m).payload (sendCell c j) 0 d) = sendPay m c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Tables

/-! ## What a device owes at launch; the levels -/

/-- The credits of the copies still to be started, in the order in which they are started: the next one is the last summand. -/
def owed1 (c : Dev nD) : CellTallies nD τ sig Unit := tallyAt (recvCell (fwd 2 c) (opp 2)) () N
def owed2 (c : Dev nD) : CellTallies nD τ sig Unit := owed1 c + tallyAt (recvCell (fwd 1 c) (opp 1)) () N
def owed3 (c : Dev nD) : CellTallies nD τ sig Unit := owed2 c + tallyAt (recvCell (fwd 0 c) (opp 0)) () N
/-- And before those the three signals. -/
def owed4 (c : Dev nD) : CellTallies nD τ sig Unit := owed3 c + tallyAt (barCell (fwd 2 c)) () 1
def owed5 (c : Dev nD) : CellTallies nD τ sig Unit := owed4 c + tallyAt (barCell (fwd 1 c)) () 1
def O₀ (c : Dev nD) : CellTallies nD τ sig Unit := owed5 c + tallyAt (barCell (fwd 0 c)) () 1

def L (g : GSem nD τ sig) : Finset Unit := if g.1.2 = .tc then {()} else ∅
/-- Barrier cells at 1, arrival cells at 2, the rest at 0. -/
def lv (g : GSem nD τ sig) (_ : Unit) : ℕ := if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (j : Fin 3) : lv (recvCell c j) () = 2 := (if_neg (recv_ne_bar j)).trans (if_pos ⟨j, rfl⟩)

theorem tally_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h
  omega

theorem owed3_pos {c : Dev nD} {g : GSem nD τ sig} {u : Unit} (h : 0 < owed3 c g u) : ∃ d j, g = recvCell d j := by
  unfold owed3 owed2 owed1 at h
  rcases add_pos_cases h with h | h
  · rcases add_pos_cases h with h | h
    · exact ⟨_, _, tally_pos h⟩
    · exact ⟨_, _, tally_pos h⟩
  · exact ⟨_, _, tally_pos h⟩

theorem O₀_pos {c : Dev nD} {g : GSem nD τ sig} {u : Unit} (h : 0 < O₀ c g u) : (∃ d j, g = recvCell d j) ∨ ∃ d, g = barCell d := by
  unfold O₀ owed5 owed4 at h
  rcases add_pos_cases h with h | h
  · rcases add_pos_cases h with h | h
    · rcases add_pos_cases h with h | h
      · exact .inl (owed3_pos h)
      · exact .inr ⟨_, tally_pos h⟩
    · exact .inr ⟨_, tally_pos h⟩
  · exact .inr ⟨_, tally_pos h⟩

omit [FloatOps F] in
/-- A staging wait is below everything owed. -/
theorem mayWait_stage (c : Dev nD) (q : DmaSem sig) (hq : ∀ j, SemLoc.dma q ≠ .dma (recvS j)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by
        rw [Finset.mem_singleton.mp hp]; dsimp only [lv]
        rw [if_neg (fun h => by cases h), if_neg (fun ⟨j, h⟩ => hq j h)])
      (fun g u hg => by
        rcases O₀_pos hg with ⟨d, j, rfl⟩ | ⟨d, rfl⟩
        · rw [lv_recv]; decide
        · rw [lv_bar]; decide)
  · rw [MayWait_zero]; iintro -; iempintro

omit [FloatOps F] in
/-- At the barrier wait a device owes arrivals only, and they are above the barrier. -/
theorem mayWait_bar (c : Dev nD) : (levAts L lv : sProp 𝕄) ⊢ MayWait (c : Thread nD τ) (.reg barS) () (owed3 c) :=
  MayOwe.of_cut (L := L) (lev := lv) 1 (fun p hp => by rw [Finset.mem_singleton.mp hp, L_tc]; exact Finset.mem_singleton_self _)
    (fun g u hg => by obtain ⟨d, j, rfl⟩ := owed3_pos hg; exact Finset.mem_singleton_self _)
    (fun p hp => by rw [Finset.mem_singleton.mp hp]; exact le_of_eq (lv_bar c))
    (fun g u hg => by obtain ⟨d, j, rfl⟩ := owed3_pos hg; rw [lv_recv]; decide)

/-! ## What each point of the pipeline holds -/

/-- What the kernel reads of a landed block `v`: its histogram row and its two experts. -/
def histOf (v : (cc0_scratch0 : Ref sig .tc).ty.Contents (Elt F)) : Vec F S1x1x256 .bf16 :=
  fun x => v (fun a => match a with | 0 => ⟨256, by decide⟩ | 1 => x 2)
def expOf0 (v : (cc0_scratch0 : Ref sig .tc).ty.Contents (Elt F)) : Vec F S1x128x256 .bf16 :=
  fun x => v (fun a => match a with | 0 => ⟨(x 1).val, Nat.lt_trans (x 1).isLt (by decide)⟩ | 1 => x 2)
def expOf1 (v : (cc0_scratch0 : Ref sig .tc).ty.Contents (Elt F)) : Vec F S1x128x256 .bf16 :=
  fun x => v (fun a => match a with | 0 => ⟨128 + (x 1).val, Nat.lt_of_lt_of_le (Nat.add_lt_add_left (x 1).isLt 128) (by decide)⟩ | 1 => x 2)

/-- What it reads of its own staged block. -/
def ownExp0 (v : (cc0_scratch0 : Ref sig .tc).ty.Contents (Elt F)) : Vec F S128x256 .bf16 :=
  (stM : Memref sig .tc .vmem S257x256 .bf16).view.readAt (Elt F) (Rect.unit (s := S257x256) ![0, 0] S128x256.size inb_S257x256_S128x256_0_0).toLoadRect v
def ownExp1 (v : (cc0_scratch0 : Ref sig .tc).ty.Contents (Elt F)) : Vec F S128x256 .bf16 :=
  (stM : Memref sig .tc .vmem S257x256 .bf16).view.readAt (Elt F) (Rect.unit (s := S257x256) ![128, 0] S128x256.size inb_S257x256_S128x256_128_0).toLoadRect v

/-- The word of the device's place, as the kernel computes it, and the words of the places its slots are filled from. -/
def placeW (c : Dev nD) : BitVec 32 := Scalar.remsi (Scalar.divsi (Dev.word c) 1#32) 4#32

set_option maxRecDepth 4000 in
/-- The stored result as a function of the device's place, its tokens `x` and routes `r`, its own staged block and the three landed ones. -/
def resultOf (p : BitVec 32) (x : Vec F S256x128 .bf16) (r : Vec F S256x1 .i32) (own s0 s1 s2 : (cc0_scratch0 : Ref sig .tc).ty.Contents (Elt F)) :
    FVec F S256x256 .f32 :=
  let n : BitVec 32 := Scalar.select (Scalar.cmpi .eq 4#32 0#32) 1#32 4#32
  let o0 : BitVec 32 := Scalar.addi (Scalar.addi p 0#32) 1#32
  let o2 : BitVec 32 := Scalar.remsi (Scalar.addi (Scalar.addi p 2#32) 1#32) n
  let w2 : BitVec 32 := Scalar.select (Scalar.andi (Scalar.xori (Scalar.cmpi .slt o2 0#32) (Scalar.cmpi .slt n 0#32)) (Scalar.cmpi .ne o2 0#32)) (Scalar.addi o2 n) o2
  let o1 : BitVec 32 := Scalar.remsi (Scalar.addi (Scalar.addi p 1#32) 1#32) n
  let a1 := k0_pay11 p (k0_pay2 x) (k0_pay3 r) (k0_pay9 (F := F)) (k0_pay10 p) (ownExp0 own) (ownExp1 own)
  let h0 := k0_pay14 p (k0_pay13 (F := F)) o0 (histOf s0)
  let a2 := k0_pay15 (k0_pay2 x) (k0_pay3 r) a1 o0 (expOf0 s0)
  let a3 := k0_pay17 a2 (k0_pay16 (k0_pay2 x) (k0_pay3 r) o0) (expOf1 s0)
  let h1 := k0_pay18 p h0 (histOf s2)
  let a4 := k0_pay20 (k0_pay2 x) (k0_pay3 r) a3 w2 (k0_pay19 (F := F) p (k0_pay3 r)) (expOf0 s2) (expOf1 s2)
  let a5 := k0_pay21 (k0_pay2 x) (k0_pay3 r) a4 n o1 (Scalar.cmpi .ne o1 0#32) (Scalar.cmpi .slt o1 0#32) (Scalar.cmpi .slt n 0#32) (expOf0 s1) (expOf1 s1)
  let q := k0_pay22 p (k0_pay4 r) (k0_pay12 (k0_pay4 r)) h1 n o1 (Scalar.cmpi .ne o1 0#32) (Scalar.cmpi .slt o1 0#32) (Scalar.cmpi .slt n 0#32) (histOf s1)
  k0_pay1 a5 q

/-- The result of device `c`. -/
def outAt (c : Dev nD) : (cc0_stg3_0 : Ref sig .tc).ty.Contents (Elt F) :=
  resultOf (placeW c) (xAt m c) (rtAt m c) (stageAt m c) (stageAt m (fwd 0 c)) (stageAt m (fwd 1 c)) (stageAt m (fwd 2 c))

/-- The invariants device `c` opens: its own seven, and at each of the three devices it reaches the barrier's and the arrival cell's. -/
def invs (K : Dev nD × Fin 7 → ℕ) (c : Dev nD) : sProp 𝕄 :=
  iprop(cellInv ER (sched m) (K (c, 0)) (barCell c)
    ∗ (bigSep Finset.univ fun j : Fin 3 => cellInv ER (sched m) (K (c, kSend j)) (sendCell c j))
    ∗ (bigSep Finset.univ fun j : Fin 3 => cellInv ER (sched m) (K (c, kRecv j)) (recvCell c j))
    ∗ (bigSep Finset.univ fun j : Fin 3 => cellInv ER (sched m) (K (fwd j c, 0)) (barCell (fwd j c)))
    ∗ (bigSep Finset.univ fun j : Fin 3 => cellInv ER (sched m) (K (fwd j c, kRecv (opp j))) (recvCell (fwd j c) (opp j))))

/-- The marks that those cells are at their first round. -/
def marks (c : Dev nD) : sProp 𝕄 :=
  iprop((bigSep Finset.univ fun j : Fin 3 => reached ER (sendCell c j) 0)
    ∗ (bigSep Finset.univ fun j : Fin 3 => reached ER (recvCell c j) 0)
    ∗ (bigSep Finset.univ fun j : Fin 3 => reached ER (barCell (fwd j c)) 0)
    ∗ (bigSep Finset.univ fun j : Fin 3 => reached ER (recvCell (fwd j c) (opp j)) 0))

/-- The device's position at its own cells. -/
def places (c : Dev nD) : sProp 𝕄 :=
  iprop(atPos ER (barCell c) 0 ∅ 0
    ∗ (bigSep Finset.univ fun j : Fin 3 => atPos ER (sendCell c j) 0 ∅ 0)
    ∗ (bigSep Finset.univ fun j : Fin 3 => atPos ER (recvCell c j) 0 ∅ 0))

/-- The tokens of the duties that device `c` pays. -/
def payToks (c : Dev nD) : sProp 𝕄 :=
  iprop((bigSep Finset.univ fun j : Fin 3 => dutyTok ER (barCell (fwd j c)) 0 (opp j))
    ∗ (bigSep Finset.univ fun j : Fin 3 => dutyTok ER (recvCell (fwd j c) (opp j)) 0 (0 : Fin 3))
    ∗ (bigSep Finset.univ fun j : Fin 3 => dutyTok ER (sendCell c j) 0 (0 : Fin 3)))

def ghost (K : Dev nD × Fin 7 → ℕ) (c : Dev nD) : sProp 𝕄 :=
  iprop(invs m K c ∗ marks c ∗ places c ∗ payToks c)

/-- The credits the device holds at launch: what the others owe its own cells. -/
def credits (c : Dev nD) : sProp 𝕄 :=
  iprop(cred (tallyAt (barCell c) () 3) ∗ (bigSep Finset.univ fun j : Fin 3 => cred (tallyAt (recvCell c j) () N)))

def start (c : Dev nD) : sProp 𝕄 := iprop((∃ K, ghost m K c) ∗ credits c ∗ levAts L lv)

/-- Before the body: that, and the two scratch buffers at any contents. -/
def Φ₀ (c : Dev nD) : sProp 𝕄 :=
  iprop(start m c ∗ (∃ f, stPts c fullShare f) ∗ (∃ f, ((c : Thread nD τ).loc cc0_scratch1) ↦{fullShare} f))
/-- After it: the scratch buffers, and every counter of the exchange back at zero. -/
def Φ₁ (c : Dev nD) : sProp 𝕄 :=
  iprop((∃ f, stPts c fullShare f) ∗ (∃ f, ((c : Thread nD τ).loc cc0_scratch1) ↦{fullShare} f)
    ∗ semVal (barCell c) 0
    ∗ (bigSep Finset.univ fun j : Fin 3 => semVal (sendCell c j) 0)
    ∗ (bigSep Finset.univ fun j : Fin 3 => semVal (recvCell c j) 0))

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => rtAt m c
    | ⟨2, _⟩ => ewAt m c
    | ⟨3, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.Exchange

end
-- ==== Proof.KernelIdealSteps.lean ====
/-
The single effects of the exchange, one lemma each: what the loads read, a signal, a copy, an arrival, the return
of a lent share, the closing of a cell.  Generic in the step `j`, so that the body uses each of them three times.
-/
module

public import proofs.«01_k».proof.Proof.KernelIdealRounds

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Loads and stores -/

section Reads
omit [FloatOps F]

theorem zero2 : (![0, 0] : Fin 2 → Nat) = fun _ => 0 := funext fun a => by fin_cases a <;> rfl

theorem read_x (f : (cc0_stg0_0 : Ref sig .tc).ty.Contents (Elt F)) :
    (xM : Memref sig .tc .vmem S256x128 .bf16).view.readAt (Elt F) (Rect.unit (s := S256x128) ![0, 0] S256x128.size inb_S256x128_S256x128_0_0).toLoadRect f = f :=
  Memref.readAt_unit_zero (Elt F) cc0_stg0_0 zero2 _ f
theorem read_rt (f : (cc0_stg1_0 : Ref sig .tc).ty.Contents (Elt F)) :
    (rtM : Memref sig .tc .vmem S256x1 .i32).view.readAt (Elt F) (Rect.unit (s := S256x1) ![0, 0] S256x1.size inb_S256x1_S256x1_0_0).toLoadRect f = f :=
  Memref.readAt_unit_zero (Elt F) cc0_stg1_0 zero2 _ f
theorem write_st (f w : (cc0_scratch0 : Ref sig .tc).ty.Contents (Elt F)) :
    ((stM : Memref sig .tc .vmem S257x256 .bf16).access (Rect.unit (s := S257x256) ![0, 0] S257x256.size inb_S257x256_S257x256_0_0) : View sig .tc _ _ _).write (Elt F) f w Finset.univ = w :=
  Memref.write_access_unit_zero_univ (Elt F) cc0_scratch0 zero2 _ f w
/-- The first 256 rows, read back after the two experts are stored: one above the other. -/
theorem read_back (f : (cc0_scratch0 : Ref sig .tc).ty.Contents (Elt F)) (a b : Vec F S128x256 .bf16) :
    (stM : Memref sig .tc .vmem S257x256 .bf16).view.readAt (Elt F) (Rect.unit (s := S257x256) ![0, 0] S256x256.size inb_S257x256_S256x256_0_0).toLoadRect
      (((stM : Memref sig .tc .vmem S257x256 .bf16).access (Rect.unit (s := S257x256) ![128, 0] S128x256.size inb_S257x256_S128x256_128_0) : View sig .tc _ _ _).write (Elt F)
        (((stM : Memref sig .tc .vmem S257x256 .bf16).access (Rect.unit (s := S257x256) ![0, 0] S128x256.size inb_S257x256_S128x256_0_0) : View sig .tc _ _ _).write (Elt F) f a Finset.univ) b Finset.univ)
      = stack a b := by
  funext y
  have hy0 : (y 0).val < 256 := (y 0).isLt
  have hy1 : (y 1).val < 256 := (y 1).isLt
  let i : S257x256.Idx := (Rect.unit (s := S257x256) ![0, 0] S256x256.size inb_S257x256_S256x256_0_0).idx y
  show (((stM : Memref sig .tc .vmem S257x256 .bf16).access (Rect.unit (s := S257x256) ![128, 0] S128x256.size inb_S257x256_S128x256_128_0) : View sig .tc _ _ _).write (Elt F)
    _ b Finset.univ : (cc0_scratch0 : Ref sig .tc).ty.Contents (Elt F)) i = stack a b y
  unfold stack
  by_cases h : (y 0).val < 128
  · rw [dif_pos h, View.write_of_not_mem]
    · have e : i = ((stM : Memref sig .tc .vmem S257x256 .bf16).access (Rect.unit (s := S257x256) ![0, 0] S128x256.size inb_S257x256_S128x256_0_0) : View sig .tc _ _ _).emb
          (ix2 (⟨(y 0).val, h⟩ : Fin 128) (y 1 : Fin 256)) := by
        funext k
        match k with
        | 0 => rfl
        | 1 => rfl
      rw [e, View.write_emb_of_mem _ _ (Finset.mem_univ _)]
      rfl
    · intro hi
      obtain ⟨z, -, hz⟩ := Finset.mem_map.mp hi
      have h0 : 128 + 1 * (z 0).val = 0 + 1 * (y 0).val := congrArg Fin.val (congrFun hz 0)
      omega
  · rw [dif_neg h]
    have e : i = ((stM : Memref sig .tc .vmem S257x256 .bf16).access (Rect.unit (s := S257x256) ![128, 0] S128x256.size inb_S257x256_S128x256_128_0) : View sig .tc _ _ _).emb
        (ix2 (⟨(y 0).val - 128, by omega⟩ : Fin 128) (y 1 : Fin 256)) := by
      funext k
      match k with
      | 0 => exact Fin.ext (by show 0 + 1 * (y 0).val = 128 + 1 * ((y 0).val - 128); omega)
      | 1 => rfl
    rw [e, View.write_emb_of_mem _ _ (Finset.mem_univ _)]
    rfl

theorem write_out (f w : (cc0_stg3_0 : Ref sig .tc).ty.Contents (Elt F)) :
    ((oM : Memref sig .tc .vmem S256x256 .f32).access (Rect.unit (s := S256x256) ![0, 0] S256x256.size inb_S256x256_S256x256_0_0) : View sig .tc _ _ _).write (Elt F) f w Finset.univ = w :=
  Memref.write_access_unit_zero_univ (Elt F) cc0_stg3_0 zero2 _ f w

/-- A landed slot holds, at row `y 0` and lane `y 1`, the element of the block. -/
theorem landed_at (j : Fin 3) (f : (cc0_scratch1 : Ref sig .tc).ty.Contents (Elt F)) (v : (cc0_scratch0 : Ref sig .tc).ty.Contents (Elt F))
    (y : S257x256.Idx) (i : S3x257x256.Idx) (h0 : i 0 = j) (h1 : (i 1).val = (y 0).val) (h2 : (i 2).val = (y 1).val) :
    landed j f v i = v y := by
  rw [← slot_emb j y i h0 h1 h2]
  exact View.write_emb_of_mem _ _ (Finset.mem_univ y)

theorem read_hist (j : Fin 3) (h : ∀ a, (![j.val, 256, 0] : Fin 3 → Nat) a + S1x1x256.size a ≤ S3x257x256.size a)
    (f : (cc0_scratch1 : Ref sig .tc).ty.Contents (Elt F)) (v : (cc0_scratch0 : Ref sig .tc).ty.Contents (Elt F)) :
    (rbM : Memref sig .tc .vmem S3x257x256 .bf16).view.readAt (Elt F) (Rect.unit (s := S3x257x256) ![j.val, 256, 0] S1x1x256.size h).toLoadRect (landed j f v) = histOf v := by
  funext x
  have hx0 : (x 0).val = 0 := by have : (x 0).val < 1 := (x 0).isLt; omega
  have hx1 : (x 1).val = 0 := by have : (x 1).val < 1 := (x 1).isLt; omega
  refine landed_at j f v _ ((Rect.unit (s := S3x257x256) ![j.val, 256, 0] S1x1x256.size h).emb x) ?_ ?_ ?_
  · apply Fin.ext; simp [Rect.emb, Rect.unit, hx0]
  · simp [Rect.emb, Rect.unit, hx1]
  · simp [Rect.emb, Rect.unit]

theorem read_exp0 (j : Fin 3) (h : ∀ a, (![j.val, 0, 0] : Fin 3 → Nat) a + S1x128x256.size a ≤ S3x257x256.size a)
    (f : (cc0_scratch1 : Ref sig .tc).ty.Contents (Elt F)) (v : (cc0_scratch0 : Ref sig .tc).ty.Contents (Elt F)) :
    (rbM : Memref sig .tc .vmem S3x257x256 .bf16).view.readAt (Elt F) (Rect.unit (s := S3x257x256) ![j.val, 0, 0] S1x128x256.size h).toLoadRect (landed j f v) = expOf0 v := by
  funext x
  have hx0 : (x 0).val = 0 := by have : (x 0).val < 1 := (x 0).isLt; omega
  refine landed_at j f v _ ((Rect.unit (s := S3x257x256) ![j.val, 0, 0] S1x128x256.size h).emb x) ?_ ?_ ?_
  · apply Fin.ext; simp [Rect.emb, Rect.unit, hx0]
  · simp [Rect.emb, Rect.unit]
  · simp [Rect.emb, Rect.unit]

theorem read_exp1 (j : Fin 3) (h : ∀ a, (![j.val, 128, 0] : Fin 3 → Nat) a + S1x128x256.size a ≤ S3x257x256.size a)
    (f : (cc0_scratch1 : Ref sig .tc).ty.Contents (Elt F)) (v : (cc0_scratch0 : Ref sig .tc).ty.Contents (Elt F)) :
    (rbM : Memref sig .tc .vmem S3x257x256 .bf16).view.readAt (Elt F) (Rect.unit (s := S3x257x256) ![j.val, 128, 0] S1x128x256.size h).toLoadRect (landed j f v) = expOf1 v := by
  funext x
  have hx0 : (x 0).val = 0 := by have : (x 0).val < 1 := (x 0).isLt; omega
  refine landed_at j f v _ ((Rect.unit (s := S3x257x256) ![j.val, 128, 0] S1x128x256.size h).emb x) ?_ ?_ ?_
  · apply Fin.ext; simp [Rect.emb, Rect.unit, hx0]
  · simp [Rect.emb, Rect.unit]
  · simp [Rect.emb, Rect.unit]

/-- A load from slot `j` stays within the slot. -/
theorem within_slot (j : Fin 3) (o n : ℕ) (hn : ∀ a, (![j.val, o, 0] : Fin 3 → Nat) a + (⟨3, ![1, n, 256]⟩ : Shape).size a ≤ S3x257x256.size a) :
    (rbM : Memref sig .tc .vmem S3x257x256 .bf16).view.setOn (Rect.unit (s := S3x257x256) ![j.val, o, 0] (⟨3, ![1, n, 256]⟩ : Shape).size hn).toLoadRect.set ⊆ (slotM j).view.set := by
  intro i hi
  rw [slot_mem]
  have hi' : i ∈ (Rect.unit (s := S3x257x256) ![j.val, o, 0] (⟨3, ![1, n, 256]⟩ : Shape).size hn).set := by
    have h : (rbM : Memref sig .tc .vmem S3x257x256 .bf16).view.setOn (Rect.unit (s := S3x257x256) ![j.val, o, 0] (⟨3, ![1, n, 256]⟩ : Shape).size hn).toLoadRect.set
        = (Rect.unit (s := S3x257x256) ![j.val, o, 0] (⟨3, ![1, n, 256]⟩ : Shape).size hn).set := Finset.map_refl
    rw [← h]; exact hi
  have := (Rect.mem_set_unit.mp hi') 0
  simp only [Matrix.cons_val_zero] at this
  exact Fin.ext (by omega)

end Reads

theorem slot_credit (j : Fin 3) : (slotM j).view.dmaCredit = N := rfl

/-! ## Signals, copies, waits -/

variable (K : Dev nD × Fin 7 → ℕ)

/-- Signal `j`: the device's own slot `j` goes to the device that fills it. -/
theorem wp_signal_step (c n : Dev nD) (j : Fin 3) (hn : n = fwd j c) {α : Type} {Q : α → sProp 𝕄}
    {k : PUnit → Prog (TpuEff nD τ sig (Elt F) Λ₀ .tc) α} (f : Buf (Elt F) ((c : Thread nD τ).loc cc0_scratch1))
    (O : CellTallies nD τ sig Unit) (W : Waits sig Unit) :
    iprop(cellInv ER (sched m) (K (fwd j c, 0)) (barCell (fwd j c)) ∗ owes (c : Thread nD τ) (O + tallyAt (barCell (fwd j c)) () 1) W
        ∗ dutyTok ER (barCell (fwd j c)) 0 (opp j) ∗ reached ER (barCell (fwd j c)) 0 ∗ slotPts c j f ∗ reached ER (recvCell c j) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  have h := Rounds.wp_signal 𝒱₀ ER (sched m) (defs := defs₀ (F := F)) (c : Thread nD τ) none (Γ := []) (Q := Q) (k := k) (dst := (fwd j c : Thread nD τ)) (κ := K (fwd j c, 0)) (sem := barS) (r := 0)
    (d := opp j) (by rw [duties_bar]; exact Finset.mem_univ _) (amount_bar m (fwd j c) (opp j)) () O rfl (W := W) (Es := Set.univ)
  iintro ⟨H1, H2, H3, H4, H5, H6⟩
  iapply h
  isplitl [H1]; · iexact H1
  isplitl [H2]; · iexact H2
  isplitl [H3]; · iexact H3
  isplitl [H5 H6]
  · rw [payload_bar]; unfold barPay; rw [fwd_opp, opp_opp]
    isplitl [H5]; · iexists f; iexact H5
    iexact H6
  iexact H4

/-- Copy `j`: a share of the staged block is lent to it, and the block lands in slot `opp j` of the device it reaches. -/
theorem wp_send_step (c n : Dev nD) (j : Fin 3) (hn : n = fwd j c)
    {hsc : (slotM (opp j) : Memref sig (Dev.tc n : Thread nD τ).2.kind .vmem S257x256 .bf16).view.ref.isScScratch = false}
    {hsrc : (stM : Memref sig .tc .vmem S257x256 .bf16).view.WordExact} {hdst : (slotM (opp j) : Memref sig .tc .vmem S257x256 .bf16).view.WordExact}
    {hsem : DmaTarget.Typed .vmem (.dma (recvS (opp j))) (.remote (Dev.tc n : Thread nD τ) (slotM (opp j) : Memref sig .tc .vmem S257x256 .bf16) (.dma (sendS j)) hsc)}
    {α : Type} {Q : α → sProp 𝕄} {k : PUnit → Prog (TpuEff nD τ sig (Elt F) Λ₀ .tc) α}
    (f : Buf (Elt F) ((fwd j c : Thread nD τ).loc cc0_scratch1)) (O : CellTallies nD τ sig Unit) (W : Waits sig Unit) :
    iprop(cellInv ER (sched m) (K (c, kSend j)) (sendCell c j) ∗ cellInv ER (sched m) (K (fwd j c, kRecv (opp j))) (recvCell (fwd j c) (opp j))
        ∗ stPts c (lent j) (stageAt m c) ∗ slotPts (fwd j c) (opp j) f
        ∗ owes (c : Thread nD τ) (O + tallyAt (recvCell (fwd j c) (opp j)) () N) W
        ∗ dutyTok ER (sendCell c j) 0 (0 : Fin 3) ∗ reached ER (sendCell c j) 0
        ∗ dutyTok ER (recvCell (fwd j c) (opp j)) 0 (0 : Fin 3) ∗ reached ER (recvCell (fwd j c) (opp j)) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma stM (.remote (Dev.tc n : Thread nD τ) (slotM (opp j)) (.dma (sendS j)) hsc) (.dma (recvS (opp j))) hsrc hdst hsem) k) Q) := by
  subst hn
  have hpay : (slotPts (fwd j c) (opp j) (landed (opp j) f (stageAt m c)) : sProp 𝕄) ⊢ (sched m).payload (recvCell (fwd j c) (opp j)) 0 0 := by
    rw [payload_recv]; unfold recvPay; rw [fwd_opp]
    iintro H
    iexists f
    iexact H
  exact Rounds.wp_send_pointsTo 𝒱₀ ER (sched m) (defs := defs₀ (F := F)) (c : Thread nD τ) none (Γ := []) (Q := Q) (k := k)
    (c' := (Dev.tc (fwd j c) : Thread nD τ)) (src := stM) (dst := (slotM (opp j) : Memref sig (Dev.tc (fwd j c) : Thread nD τ).2.kind .vmem S257x256 .bf16))
    (hsc := hsc) (sS := .dma (sendS j)) (sem := .dma (recvS (opp j))) (hsrc := hsrc) (hdst := hdst) (hsem := hsem)
    (q := lent j) (fs := stageAt m c)
    (κ₁ := K (c, kSend j)) (κ₂ := K (fwd j c, kRecv (opp j)))
    (r₁ := 0) (r₂ := 0) (d₁ := 0) (d₂ := 0) (fd := f)
    (by rw [duties_send]; exact Finset.mem_singleton_self _) (by rw [duties_recv]; exact Finset.mem_singleton_self _)
    () () N (slot_credit (opp j)) (amount_send m c j 0) (amount_recv m (fwd j c) (opp j) 0) O rfl (W := W)
    (Entails.of_eq (payload_send m c j 0).symm) hpay

/-- Waiting for slot `j`: it comes back holding the block of the device that step `j` reaches. -/
theorem wp_arrive_step (c : Dev nD) (j : Fin 3) {src dst : Memref sig .tc .vmem S257x256 .bf16} {hsrc : src.view.WordExact} {hdst : dst.view.WordExact}
    (hN : dst.view.dmaCredit = N)
    {α : Type} {Q : α → sProp 𝕄} {k : PUnit → Prog (TpuEff nD τ sig (Elt F) Λ₀ .tc) α} (W : Waits sig Unit) :
    iprop(cellInv ER (sched m) (K (c, kRecv j)) (recvCell c j) ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) (0 + 1) ∅ 0 ∗ recvPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src dst hsrc hdst) k) Q) := by
  have h := Rounds.wp_wait_rest_token 𝒱₀ ER (sched m) (defs := defs₀ (F := F)) (c : Thread nD τ) none (Γ := []) (Q := Q) (k := k) (κ := K (c, kRecv j))
    (wpE_waitDma2_eq 𝒱₀ (c : Thread nD τ) none Set.univ (sem := recvS j) (src := src) (dst := dst) (hsrc := hsrc) (hdst := hdst)) (Set.mem_univ _) () (O := 0) (W := W) (R := 0) (m := 0) (T := ∅)
    (by rw [Nat.zero_add, expect_recv, hN])
  rw [hN, rest_recv, MayWait_zero] at h
  iintro ⟨H1, H2, H3, H4⟩ Hk
  iapply h $$ [H1 H2 H3 H4]
  · isplitl [H1]; · iexact H1
    isplitl [H2]; · iexact H2
    isplitl [H3]; · iexact H3
    isplitr; · iempintro
    iexact H4
  iintro ⟨H1, H2, -, H3⟩
  iapply Hk
  isplitl [H1]; · iexact H1
  isplitl [H2] <;> iassumption

/-- Waiting for copy `j` to have been read out: its share of the staged block comes back. -/
theorem wp_sent_step (c : Dev nD) (j : Fin 3) {src dst : Memref sig .tc .vmem S257x256 .bf16} {hsrc : src.view.WordExact} {hdst : dst.view.WordExact}
    (hN : dst.view.dmaCredit = N)
    {α : Type} {Q : α → sProp 𝕄} {k : PUnit → Prog (TpuEff nD τ sig (Elt F) Λ₀ .tc) α} (W : Waits sig Unit) :
    iprop(cellInv ER (sched m) (K (c, kSend j)) (sendCell c j) ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) (0 + 1) ∅ 0 ∗ sendPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src dst hsrc hdst) k) Q) := by
  have h := Rounds.wp_wait_rest_token 𝒱₀ ER (sched m) (defs := defs₀ (F := F)) (c : Thread nD τ) none (Γ := []) (Q := Q) (k := k) (κ := K (c, kSend j))
    (wpE_waitDma2_eq 𝒱₀ (c : Thread nD τ) none Set.univ (sem := sendS j) (src := src) (dst := dst) (hsrc := hsrc) (hdst := hdst)) (Set.mem_univ _) () (O := 0) (W := W) (R := 0) (m := 0) (T := ∅)
    (by rw [Nat.zero_add, expect_send, hN])
  rw [hN, rest_send, MayWait_zero] at h
  iintro ⟨H1, H2, H3, H4⟩ Hk
  iapply h $$ [H1 H2 H3 H4]
  · isplitl [H1]; · iexact H1
    isplitl [H2]; · iexact H2
    isplitl [H3]; · iexact H3
    isplitr; · iempintro
    iexact H4
  iintro ⟨H1, H2, -, H3⟩
  iapply Hk
  isplitl [H1]; · iexact H1
  isplitl [H2] <;> iassumption

/-- The barrier: the three slots this device will fill come with it. -/
theorem wp_barrier_step (c : Dev nD) {α : Type} {Q : α → sProp 𝕄} {k : PUnit → Prog (TpuEff nD τ sig (Elt F) Λ₀ .tc) α} (W : Waits sig Unit) :
    iprop(cellInv ER (sched m) (K (c, 0)) (barCell c) ∗ cred (tallyAt (barCell c) () 3) ∗ owes (c : Thread nD τ) (owed3 c) W ∗ levAts L lv ∗ atPos ER (barCell c) 0 ∅ 0)
      ⊢ iprop(((owes (c : Thread nD τ) (owed3 c) (insert (SemLoc.reg barS, ()) W) ∗ atPos ER (barCell c) (0 + 1) ∅ 0 ∗ (barPay c 0 ∗ barPay c 1 ∗ barPay c 2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  have h := Rounds.wp_wait_rest_token 𝒱₀ ER (sched m) (defs := defs₀ (F := F)) (c : Thread nD τ) none (Γ := []) (Q := Q) (k := k) (κ := K (c, 0))
    (wpE_semWait_eq 𝒱₀ (c : Thread nD τ) none Set.univ (sem := barS) (k := 3)) (Set.mem_univ _) () (O := owed3 c) (W := W) (R := 0) (m := 0) (T := ∅)
    (by rw [Nat.zero_add, expect_bar])
  rw [rest_bar] at h
  iintro ⟨H1, H2, H3, Hlev, H4⟩ Hk
  iapply h $$ [H1 H2 H3 Hlev H4]
  · isplitl [H1]; · iexact H1
    isplitl [H2]; · iexact H2
    isplitl [H3]; · iexact H3
    isplitl [Hlev]; · iapply (mayWait_bar c); iexact Hlev
    iexact H4
  iintro ⟨H1, H2, -, H3⟩
  iapply Hk
  isplitl [H1]; · iexact H1
  isplitl [H2] <;> iassumption

/-- A cell past its only round closes: its counter is at zero, and the device's again. -/
theorem close_cell (κ : ℕ) (g : GSem nD τ sig) :
    iprop(cellInv ER (sched (F := F) m) κ g ∗ atPos ER g (0 + 1) ∅ 0) ⊢ iprop(|={Set.univ}=> semVal g 0) :=
  Rounds.cell_close ER (sched m) (Set.mem_univ κ) (fun h => h) (R := 0 + 1) (duties_later m g)

end Cert.KernelIdeal.Exchange

end
-- ==== Proof.KernelIdealBody.lean ====
/-
The kernel's body, executed from what a device holds before it to what it holds after it: three signals, the
block staged, the barrier, three copies started, three blocks read as they land, the result stored, the three lent
shares back, every cell closed.
-/
module

public import proofs.«01_k».proof.Proof.KernelIdealSteps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_wins (Φ : Fin cfg0.W → sProp 𝕄) :
    bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of the device holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owed1_eq (c : Dev nD) : owed1 c = 0 + tallyAt (recvCell (fwd 2 c) (opp 2)) () N := (zero_add _).symm

omit [FloatOps F] in
/-- Any load of the staged block stays within it. -/
theorem own_within {r : LoadRect S257x256} :
    (stM : Memref sig .tc .vmem S257x256 .bf16).view.setOn r.set ⊆ (stM : Memref sig .tc .vmem S257x256 .bf16).view.set := View.setOn_subset_set _ _

/-- What the store has left in the staging block is the block that `stageAt` names. -/
theorem staged_eq (c : Dev nD) :
    (((stM : Memref sig .tc .vmem S257x256 .bf16).access (Rect.unit (s := S257x256) ![0, 0] S257x256.size inb_S257x256_S257x256_0_0)).loc (c : Thread nD τ)
        ↦{fullShare} k0_pay8 (k0_pay5 (rtAt m c)) (stack
          (k0_pay6 ((ewM : Memref sig .tc .vmem S2x128x256 .bf16).view.readAt (Elt F) (Rect.unit (s := S2x128x256) ![0, 0, 0] S1x128x256.size inb_S2x128x256_S1x128x256_0_0_0).toLoadRect (ewAt m c)))
          (k0_pay7 ((ewM : Memref sig .tc .vmem S2x128x256 .bf16).view.readAt (Elt F) (Rect.unit (s := S2x128x256) ![1, 0, 0] S1x128x256.size inb_S2x128x256_S1x128x256_1_0_0).toLoadRect (ewAt m c)))) : sProp 𝕄)
      = stPts c fullShare (stageAt m c) := (stPts_whole c (stageAt m c)).symm

variable (K : Dev nD × Fin 7 → ℕ)

abbrev owing (c : Dev nD) (t : Fin (cfg0.N + 1)) : sProp 𝕄 := (dats m 0 c).owesAt () t

def bodyPre (c : Dev nD) : sProp 𝕄 :=
  iprop((ghost m K c ∗ credits c ∗ levAts L lv ∗ (∃ f, stPts c fullShare f) ∗ (∃ f, ((c : Thread nD τ).loc cc0_scratch1) ↦{fullShare} f))
    ∗ owing m c t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ (F := F) c ∗ owing m c t0_0.succ ∗ stg c cc0_stg0_0 (xAt m c) ∗ stg c cc0_stg1_0 (rtAt m c) ∗ stg c cc0_stg2_0 (ewAt m c)
    ∗ stg c cc0_stg3_0 (outAt m c))

set_option maxHeartbeats 4000000 in
set_option maxRecDepth 8000 in
/-- The body, effect by effect. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre ghost invs marks places payToks credits
  simp only [bigSep_fin3]
  iintro ⟨⟨⟨⟨⟨#IB, ⟨#IS0, #IS1, #IS2⟩, ⟨#IR0, #IR1, #IR2⟩, ⟨#IB0, #IB1, #IB2⟩, ⟨#IT0, #IT1, #IT2⟩⟩,
      ⟨⟨#RS0, #RS1, #RS2⟩, ⟨#RR0, #RR1, #RR2⟩, ⟨#RB0, #RB1, #RB2⟩, ⟨#RT0, #RT1, #RT2⟩⟩,
      ⟨PB, ⟨PS0, PS1, PS2⟩, ⟨PR0, PR1, PR2⟩⟩,
      ⟨⟨TB0, TB1, TB2⟩, ⟨TR0, TR1, TR2⟩, ⟨TS0, TS1, TS2⟩⟩⟩,
      ⟨CB, ⟨CR0, CR1, CR2⟩⟩, #Hlev, ⟨%fst, Hst⟩, ⟨%frb, Hrb⟩⟩,
    Ho, ⟨%d0, %g0, %hg0, Hx⟩, ⟨%d1, %g1, %hg1, Hrt⟩, ⟨%d2, %g2, %hg2, Hew⟩, ⟨%d3, %g3, %hg3, Hout⟩⟩, Hk⟩
  have hx : g0 = xAt m c := by rw [hg0]; unfold Dat.before; rw [if_pos (fetch0_0 t0_0)]; rfl
  have hrt : g1 = rtAt m c := by rw [hg1]; unfold Dat.before; rw [if_pos (fetch0_1 t0_0)]; rfl
  have hew : g2 = ewAt m c := by rw [hg2]; unfold Dat.before; rw [if_pos (fetch0_2 t0_0)]; rfl
  subst hx hrt hew
  unfold owing Dat.owesAt Pipeline.owesWithin
  icases Ho with ⟨%W, %hW, HO⟩
  rw [show (dats m 0 c).owed t0_0.castSucc = O₀ c from rfl]
  ihave Hslots := (Entails.of_eq (slots_split c frb)) $$ Hrb
  icases Hslots with ⟨Hs0, Hs1, Hs2⟩
  -- the three signals
  unfold O₀
  iapply (wp_signal_step m K c _ 0 (dev1_eq c) frb (owed5 c) W) $$ [HO TB0 Hs0]
  · isplitr; · iexact IB0
    isplitl [HO]; · iexact HO
    isplitl [TB0]; · iexact TB0
    isplitr; · iexact RB0
    isplitl [Hs0]; · iexact Hs0
    iexact RR0
  iintro HO
  unfold owed5
  iapply (wp_signal_step m K c _ 1 (dev2_eq c) frb (owed4 c) W) $$ [HO TB1 Hs1]
  · isplitr; · iexact IB1
    isplitl [HO]; · iexact HO
    isplitl [TB1]; · iexact TB1
    isplitr; · iexact RB1
    isplitl [Hs1]; · iexact Hs1
    iexact RR1
  iintro HO
  unfold owed4
  iapply (wp_signal_step m K c _ 2 (dev3_eq c) frb (owed3 c) W) $$ [HO TB2 Hs2]
  · isplitr; · iexact IB2
    isplitl [HO]; · iexact HO
    isplitl [TB2]; · iexact TB2
    isplitr; · iexact RB2
    isplitl [Hs2]; · iexact Hs2
    iexact RR2
  iintro HO
  -- the operands, and the block staged
  iapply (wp_load 𝒱₀ (c : Thread nD τ) none Set.univ (m := xM) (Finset.subset_univ _)) $$ Hx; iintro Hx
  rw [read_x]
  iapply (wp_load 𝒱₀ (c : Thread nD τ) none Set.univ (m := rtM) (Finset.subset_univ _)) $$ Hrt; iintro Hrt
  rw [read_rt]
  ihave Hst := (Entails.of_eq (stPts_whole c fst)) $$ Hst
  iapply (wp_load 𝒱₀ (c : Thread nD τ) none Set.univ (m := ewM) (Finset.subset_univ _)) $$ Hew; iintro Hew
  iapply (wp_load 𝒱₀ (c : Thread nD τ) none Set.univ (m := stM) (Finset.subset_univ _)) $$ Hst; iintro Hst
  iapply (wp_store 𝒱₀ (c : Thread nD τ) none Set.univ (m := stM) (r := Rect.unit (s := S257x256) ![0, 0] S128x256.size inb_S257x256_S128x256_0_0) (Mk := Finset.univ) (Finset.subset_univ _)) $$ Hst; iintro Hst
  iapply (wp_load 𝒱₀ (c : Thread nD τ) none Set.univ (m := ewM) (Finset.subset_univ _)) $$ Hew; iintro Hew
  iapply (wp_load 𝒱₀ (c : Thread nD τ) none Set.univ (m := stM) (Finset.subset_univ _)) $$ Hst; iintro Hst
  iapply (wp_store 𝒱₀ (c : Thread nD τ) none Set.univ (m := stM) (r := Rect.unit (s := S257x256) ![128, 0] S128x256.size inb_S257x256_S128x256_128_0) (Mk := Finset.univ) (Finset.subset_univ _)) $$ Hst; iintro Hst
  iapply (wp_load 𝒱₀ (c : Thread nD τ) none Set.univ (m := stM) (Finset.subset_univ _)) $$ Hst; iintro Hst
  iapply (wp_load 𝒱₀ (c : Thread nD τ) none Set.univ (m := stM) (Finset.subset_univ _)) $$ Hst; iintro Hst
  iapply (wp_store 𝒱₀ (c : Thread nD τ) none Set.univ (m := stM) (r := Rect.unit (s := S257x256) ![0, 0] S257x256.size inb_S257x256_S257x256_0_0) (Mk := Finset.univ) (Finset.subset_univ _)) $$ Hst; iintro Hst
  rw [write_st, read_back]
  ihave Hst := (Entails.of_eq (staged_eq m c)) $$ Hst
  ihave Hst := (stPts_shares c (stageAt m c)).1 $$ Hst
  icases Hst with ⟨⟨Hq0, Hq1⟩, Hq2, Hq⟩
  -- the barrier
  iapply (wp_barrier_step m K c W) $$ [CB HO PB]
  · isplitr; · iexact IB
    isplitl [CB]; · iexact CB
    isplitl [HO]; · iexact HO
    isplitr; · iexact Hlev
    iexact PB
  unfold barPay
  iintro ⟨HO, PB, ⟨⟨%f0, Hd0⟩, -⟩, ⟨⟨%f1, Hd1⟩, -⟩, ⟨%f2, Hd2⟩, -⟩
  -- the three copies
  unfold owed3
  iapply (wp_send_step m K c _ 0 (dev4_eq c) f0 (owed2 c) _) $$ [Hq0 Hd0 HO TS0 TR0]
  · isplitr; · iexact IS0
    isplitr; · iexact IT0
    isplitl [Hq0]; · iexact Hq0
    isplitl [Hd0]; · iexact Hd0
    isplitl [HO]; · iexact HO
    isplitl [TS0]; · iexact TS0
    isplitr; · iexact RS0
    isplitl [TR0]; · iexact TR0
    iexact RT0
  iintro ⟨CS0, HO⟩
  unfold owed2
  iapply (wp_send_step m K c _ 1 (dev5_eq c) f1 (owed1 c) _) $$ [Hq1 Hd1 HO TS1 TR1]
  · isplitr; · iexact IS1
    isplitr; · iexact IT1
    isplitl [Hq1]; · iexact Hq1
    isplitl [Hd1]; · iexact Hd1
    isplitl [HO]; · iexact HO
    isplitl [TS1]; · iexact TS1
    isplitr; · iexact RS1
    isplitl [TR1]; · iexact TR1
    iexact RT1
  iintro ⟨CS1, HO⟩
  ihave HO := (Entails.of_eq (congrArg (fun O => owes (c : Thread nD τ) O _) (owed1_eq c))) $$ HO
  iapply (wp_send_step m K c _ 2 (dev6_eq c) f2 0 _) $$ [Hq2 Hd2 HO TS2 TR2]
  · isplitr; · iexact IS2
    isplitr; · iexact IT2
    isplitl [Hq2]; · iexact Hq2
    isplitl [Hd2]; · iexact Hd2
    isplitl [HO]; · iexact HO
    isplitl [TS2]; · iexact TS2
    isplitr; · iexact RS2
    isplitl [TR2]; · iexact TR2
    iexact RT2
  iintro ⟨CS2, HO⟩
  -- the device's own two experts, read while the copies run
  unfold stPts
  iapply (wp_load 𝒱₀ (c : Thread nD τ) none Set.univ (m := stM) own_within) $$ Hq; iintro Hq
  iapply (wp_load 𝒱₀ (c : Thread nD τ) none Set.univ (m := stM) own_within) $$ Hq; iintro Hq
  -- the three blocks, as they land
  iapply (wp_arrive_step m K c 0 (slot_credit 0) _) $$ [CR0 HO PR0]
  · isplitr; · iexact IR0
    isplitl [CR0]; · iexact CR0
    isplitl [HO]; · iexact HO
    iexact PR0
  unfold recvPay slotPts
  iintro ⟨HO, PR0, ⟨%l0, Hs0⟩⟩
  iapply (wp_load 𝒱₀ (c : Thread nD τ) none Set.univ (m := rbM) (within_slot 0 256 1 _)) $$ Hs0; iintro Hs0
  rw [read_hist 0]
  iapply (wp_load 𝒱₀ (c : Thread nD τ) none Set.univ (m := rbM) (within_slot 0 0 128 _)) $$ Hs0; iintro Hs0
  rw [read_exp0 0]
  iapply (wp_load 𝒱₀ (c : Thread nD τ) none Set.univ (m := rbM) (within_slot 0 128 128 _)) $$ Hs0; iintro Hs0
  rw [read_exp1 0]
  iapply (wp_arrive_step m K c 2 (slot_credit 2) _) $$ [CR2 HO PR2]
  · isplitr; · iexact IR2
    isplitl [CR2]; · iexact CR2
    isplitl [HO]; · iexact HO
    iexact PR2
  unfold recvPay slotPts
  iintro ⟨HO, PR2, ⟨%l2, Hs2⟩⟩
  iapply (wp_load 𝒱₀ (c : Thread nD τ) none Set.univ (m := rbM) (within_slot 2 256 1 _)) $$ Hs2; iintro Hs2
  rw [read_hist 2]
  iapply (wp_load 𝒱₀ (c : Thread nD τ) none Set.univ (m := rbM) (within_slot 2 0 128 _)) $$ Hs2; iintro Hs2
  rw [read_exp0 2]
  iapply (wp_load 𝒱₀ (c : Thread nD τ) none Set.univ (m := rbM) (within_slot 2 128 128 _)) $$ Hs2; iintro Hs2
  rw [read_exp1 2]
  iapply (wp_arrive_step m K c 1 (slot_credit 1) _) $$ [CR1 HO PR1]
  · isplitr; · iexact IR1
    isplitl [CR1]; · iexact CR1
    isplitl [HO]; · iexact HO
    iexact PR1
  unfold recvPay slotPts
  iintro ⟨HO, PR1, ⟨%l1, Hs1⟩⟩
  iapply (wp_load 𝒱₀ (c : Thread nD τ) none Set.univ (m := rbM) (within_slot 1 256 1 _)) $$ Hs1; iintro Hs1
  rw [read_hist 1]
  iapply (wp_load 𝒱₀ (c : Thread nD τ) none Set.univ (m := rbM) (within_slot 1 0 128 _)) $$ Hs1; iintro Hs1
  rw [read_exp0 1]
  iapply (wp_load 𝒱₀ (c : Thread nD τ) none Set.univ (m := rbM) (within_slot 1 128 128 _)) $$ Hs1; iintro Hs1
  rw [read_exp1 1]
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S256x256) ![0, 0] S256x256.size inb_S256x256_S256x256_0_0)
    (Mk := Finset.univ) (Finset.subset_univ _)) $$ Hout; iintro Hout
  rw [write_out]
  -- the lent shares
  iapply (wp_sent_step m K c 0 rfl _) $$ [CS0 HO PS0]
  · isplitr; · iexact IS0
    isplitl [CS0]; · iexact CS0
    isplitl [HO]; · iexact HO
    iexact PS0
  iintro ⟨HO, PS0, Hq0⟩
  iapply (wp_sent_step m K c 1 rfl _) $$ [CS1 HO PS1]
  · isplitr; · iexact IS1
    isplitl [CS1]; · iexact CS1
    isplitl [HO]; · iexact HO
    iexact PS1
  iintro ⟨HO, PS1, Hq1⟩
  iapply (wp_sent_step m K c 2 rfl _) $$ [CS2 HO PS2]
  · isplitr; · iexact IS2
    isplitl [CS2]; · iexact CS2
    isplitl [HO]; · iexact HO
    iexact PS2
  iintro ⟨HO, PS2, Hq2⟩
  -- every cell closes
  imod (close_cell m (K (c, 0)) (barCell c)) $$ [PB] with ZB
  · isplitr; · iexact IB
    iexact PB
  imod (close_cell m (K (c, kSend 0)) (sendCell c 0)) $$ [PS0] with ZS0
  · isplitr; · iexact IS0
    iexact PS0
  imod (close_cell m (K (c, kSend 1)) (sendCell c 1)) $$ [PS1] with ZS1
  · isplitr; · iexact IS1
    iexact PS1
  imod (close_cell m (K (c, kSend 2)) (sendCell c 2)) $$ [PS2] with ZS2
  · isplitr; · iexact IS2
    iexact PS2
  imod (close_cell m (K (c, kRecv 0)) (recvCell c 0)) $$ [PR0] with ZR0
  · isplitr; · iexact IR0
    iexact PR0
  imod (close_cell m (K (c, kRecv 1)) (recvCell c 1)) $$ [PR1] with ZR1
  · isplitr; · iexact IR1
    iexact PR1
  imod (close_cell m (K (c, kRecv 2)) (recvCell c 2)) $$ [PR2] with ZR2
  · isplitr; · iexact IR2
    iexact PR2
  rw [wp_ret]; imodintro
  iapply Hk
  unfold bodyPost Φ₁ owing Dat.owesAt Pipeline.owesWithin
  rw [show (dats m 0 c).owed t0_0.succ = 0 from rfl]
  simp only [bigSep_fin3]
  isplitl [Hs0 Hs1 Hs2 Hq0 Hq1 Hq2 Hq ZB ZS0 ZS1 ZS2 ZR0 ZR1 ZR2]
  · isplitl [Hq0 Hq1 Hq2 Hq]
    · iexists (stageAt m c)
      iapply (stPts_shares c (stageAt m c)).2
      unfold sendPay stPts
      isplitl [Hq0 Hq1]
      · isplitl [Hq0]; · iexact Hq0
        iexact Hq1
      · isplitl [Hq2]; · iexact Hq2
        iexact Hq
    isplitl [Hs0 Hs1 Hs2]
    · iapply (slots_join c (fun | 0 => landed 0 l0 (stageAt m (fwd 0 c)) | 1 => landed 1 l1 (stageAt m (fwd 1 c)) | 2 => landed 2 l2 (stageAt m (fwd 2 c))))
      unfold slotPts
      isplitl [Hs0]; · iexact Hs0
      isplitl [Hs1]; · iexact Hs1
      iexact Hs2
    isplitl [ZB]; · iexact ZB
    isplitl [ZS0 ZS1 ZS2]
    · isplitl [ZS0]; · iexact ZS0
      isplitl [ZS1]; · iexact ZS1
      iexact ZS2
    · isplitl [ZR0]; · iexact ZR0
      isplitl [ZR1]; · iexact ZR1
      iexact ZR2
  isplitl [HO]
  · iexists (insert (SemLoc.dma (sendS 2), ()) (insert (SemLoc.dma (sendS 1), ()) (insert (SemLoc.dma (sendS 0), ()) (insert (SemLoc.dma (recvS 1), ())
      (insert (SemLoc.dma (recvS 2), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  isplitl [Hrt]
  · iexists _; isplitr; · (ipureintro; rfl)
    iexact Hrt
  isplitl [Hew]
  · iexists _; isplitr; · (ipureintro; rfl)
    iexact Hew
  iexists _; isplitr; · (ipureintro; rfl)
  iexact Hout

set_option maxRecDepth 4000 in
/-- What the pipeline hands the body at its one point. -/
def atPoint (c : Dev nD) : sProp 𝕄 :=
  iprop(Φ₀ m c ∗ owing m c t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 4000 in
/-- The body does what the pipeline asks of it. -/
theorem body_obligation (c : Dev nD) : BodyObligation (dats (F := F) m 0 c) (defs₀ (F := F)) 𝒱₀ () Set.univ := fun t => by
  rw [fin_N0 t]
  rw [bigSep_wins, bigSep_wins]
  simp only [owns_whole_eq]
  show atPoint m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3)
    (fun _ => bodyPost m c)
  unfold atPoint Φ₀ start
  iintro ⟨⟨⟨⟨%K, Hg⟩, Hc, Hl⟩, Hst, Hrb⟩, Ho, Hx, Hrt, Hew, Hout⟩
  iapply (sound_body m K c fun _ => bodyPost m c)
  unfold bodyPre
  isplitr []
  · isplitl [Hg Hc Hl Hst Hrb]
    · isplitl [Hg]; · iexact Hg
      isplitl [Hc]; · iexact Hc
      isplitl [Hl]; · iexact Hl
      isplitl [Hst] <;> iassumption
    isplitl [Ho]; · iexact Ho
    isplitl [Hx]; · iexact Hx
    isplitl [Hrt]; · iexact Hrt
    isplitl [Hew] <;> iassumption
  · iintro H; iexact H

end Cert.KernelIdeal.Exchange

end
-- ==== Proof.KernelIdealLaunch.lean ====
/-
The launch: the ghost state of the exchange dealt to the four devices, the counters at zero turned into cells, the
credits that the devices hold against one another; and the run of the whole program.  From any memory with every
counter zero the program ends, each device's result holds `outAt`, its four arguments are what they were and every
counter is zero again.
-/
module

public import Idealize.ShloMosaic.Lib.Pipeline.CollectiveSegs
public import proofs.«01_k».proof.Proof.KernelIdealBody

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  obtain rfl : c = c' := congrArg (fun g : GSem nD τ sig => g.1.1) h
  exact congrArg (Prod.mk c) (csem_injective (congrArg Prod.snd h))

def allCells : Finset (GSem nD τ sig) := Finset.univ.map ⟨kcell, kcell_injective⟩

/-- The duties of a device's own cells: three of its barrier, one of each send cell, one of each arrival cell. -/
abbrev tokAt (k j : Fin 3) (c : Dev nD) : GSem nD τ sig × ℕ × Fin 3 := match k with
  | 0 => (barCell c, 0, j) | 1 => (sendCell c j, 0, 0) | 2 => (recvCell c j, 0, 0)
abbrev tokOf (p : Dev nD × Fin 3 × Fin 3) : GSem nD τ sig × ℕ × Fin 3 := tokAt p.2.1 p.2.2 p.1

theorem tokAt_inj : ∀ k j k' j' : Fin 3, ∀ c : Dev nD,
    (tokAt k j c).1.2 = (tokAt k' j' c).1.2 → (tokAt k j c).2.2 = (tokAt k' j' c).2.2 → k = k' ∧ j = j' := by decide

theorem tokOf_injective : Function.Injective (tokOf : Dev nD × Fin 3 × Fin 3 → GSem nD τ sig × ℕ × Fin 3) := by
  rintro ⟨c, k, j⟩ ⟨c', k', j'⟩ h
  obtain rfl : c = c' := by
    have := congrArg (fun x : GSem nD τ sig × ℕ × Fin 3 => x.1.1.1) h
    fin_cases k <;> fin_cases k' <;> exact this
  obtain ⟨rfl, rfl⟩ := tokAt_inj k j k' j' c (congrArg (fun x : GSem nD τ sig × ℕ × Fin 3 => x.1.2) h) (congrArg (fun x : GSem nD τ sig × ℕ × Fin 3 => x.2.2) h)
  rfl

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of a device's own cells. -/
def toks (c : Dev nD) : sProp 𝕄 :=
  iprop((bigSep Finset.univ fun j : Fin 3 => dutyTok ER (barCell c) 0 j)
    ∗ (bigSep Finset.univ fun j : Fin 3 => dutyTok ER (sendCell c j) 0 (0 : Fin 3))
    ∗ (bigSep Finset.univ fun j : Fin 3 => dutyTok ER (recvCell c j) 0 (0 : Fin 3)))

/-- What the launch deals a device, and what the devices together make of it. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The six transfer semaphores are the kernel's own; the barrier semaphore is the launch's. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨Hown, HB⟩
  isplitl [HB]; · iexact HB
  iexact Hown

/-- A device's counters at zero become its seven cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal -/

/-- What every device may know: all the cells, and that each is at its first round. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

omit [FloatOps F] in
/-- A persistent fact serves every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem family_of {R : sProp 𝕄} [BI.Persistent R] {Ψ : Fin 3 → sProp 𝕄} (h : ∀ j, R ⊢ Ψ j) : R ⊢ bigSep Finset.univ Ψ :=
  (BI.bigSep_of_persistent Finset.univ R).trans (bigSep_mono fun j _ => h j)

omit [FloatOps F] in
/-- One member of a family. -/
theorem member {I : Type} [DecidableEq I] [Fintype I] (Φ : I → sProp 𝕄) (i : I) : bigSep Finset.univ Φ ⊢ Φ i := bigSep_elim (Finset.mem_univ i)

theorem inv_bar (K : Dev nD × Fin 7 → ℕ) (d : Dev nD) : records m K ⊢ cellInv ER (sched m) (K (d, 0)) (barCell d) := by
  unfold records; iintro ⟨H, -⟩
  iapply (member (fun ck : Dev nD × Fin 7 => cellInv ER (sched m) (K ck) (kcell ck)) (d, (0 : Fin 7))); iexact H
theorem inv_send (K : Dev nD × Fin 7 → ℕ) (d : Dev nD) (j : Fin 3) : records m K ⊢ cellInv ER (sched m) (K (d, kSend j)) (sendCell d j) := by
  rw [← kcell_send]; unfold records; iintro ⟨H, -⟩
  iapply (member (fun ck : Dev nD × Fin 7 => cellInv ER (sched m) (K ck) (kcell ck)) (d, kSend j)); iexact H
theorem inv_recv (K : Dev nD × Fin 7 → ℕ) (d : Dev nD) (j : Fin 3) : records m K ⊢ cellInv ER (sched m) (K (d, kRecv j)) (recvCell d j) := by
  rw [← kcell_recv]; unfold records; iintro ⟨H, -⟩
  iapply (member (fun ck : Dev nD × Fin 7 => cellInv ER (sched m) (K ck) (kcell ck)) (d, kRecv j)); iexact H
theorem at_bar (K : Dev nD × Fin 7 → ℕ) (d : Dev nD) : records m K ⊢ reached ER (barCell d) 0 := by
  unfold records; iintro ⟨-, H⟩
  iapply (member (fun ck : Dev nD × Fin 7 => (reached ER (kcell ck) 0 : sProp 𝕄)) (d, (0 : Fin 7))); iexact H
theorem at_send (K : Dev nD × Fin 7 → ℕ) (d : Dev nD) (j : Fin 3) : records m K ⊢ reached ER (sendCell d j) 0 := by
  rw [← kcell_send]; unfold records; iintro ⟨-, H⟩
  iapply (member (fun ck : Dev nD × Fin 7 => (reached ER (kcell ck) 0 : sProp 𝕄)) (d, kSend j)); iexact H
theorem at_recv (K : Dev nD × Fin 7 → ℕ) (d : Dev nD) (j : Fin 3) : records m K ⊢ reached ER (recvCell d j) 0 := by
  rw [← kcell_recv]; unfold records; iintro ⟨-, H⟩
  iapply (member (fun ck : Dev nD × Fin 7 => (reached ER (kcell ck) 0 : sProp 𝕄)) (d, kRecv j)); iexact H

/-- What belongs to one device alone. -/
def linear (c : Dev nD) : sProp 𝕄 := iprop(places c ∗ payToks c)

theorem ghost_intro (K : Dev nD × Fin 7 → ℕ) (c : Dev nD) : iprop(records m K ∗ linear c) ⊢ G' m c := by
  unfold linear G' ghost invs marks
  iintro ⟨#HR, Hp, Ht⟩
  iexists K
  isplitr
  · isplitr; · iapply (inv_bar m K c); iexact HR
    isplitr; · iapply (family_of fun j => inv_send m K c j); iexact HR
    isplitr; · iapply (family_of fun j => inv_recv m K c j); iexact HR
    isplitr; · iapply (family_of fun j => inv_bar m K (fwd j c)); iexact HR
    iapply (family_of fun j => inv_recv m K (fwd j c) (opp j)); iexact HR
  isplitr
  · isplitr; · iapply (family_of fun j => at_send m K c j); iexact HR
    isplitr; · iapply (family_of fun j => at_recv m K c j); iexact HR
    isplitr; · iapply (family_of fun j => at_bar m K (fwd j c)); iexact HR
    iapply (family_of fun j => at_recv m K (fwd j c) (opp j)); iexact HR
  isplitl [Hp] <;> iassumption

omit [FloatOps F] in
/-- A family over (device, step) dealt along the exchange. -/
theorem deal (Φ : Dev nD → Fin 3 → sProp 𝕄) :
    (bigSep Finset.univ fun c : Dev nD => bigSep Finset.univ fun j : Fin 3 => Φ c j)
      = bigSep Finset.univ fun c : Dev nD => bigSep Finset.univ fun j : Fin 3 => Φ (fwd j c) (opp j) := by
  rw [← bigSep_univ_prod (fun p : Dev nD × Fin 3 => Φ p.1 p.2), bigSep_univ_equiv peerEquiv (fun p : Dev nD × Fin 3 => Φ p.1 p.2),
    ← bigSep_univ_prod (fun p : Dev nD × Fin 3 => Φ (fwd p.2 p.1) (opp p.2))]
  rfl

omit [FloatOps F] in
/-- The tokens go to the devices that pay them. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep', deal (fun c j => dutyTok ER (barCell c) 0 j), deal (fun c j => dutyTok ER (recvCell c j) 0 (0 : Fin 3))]
  iintro ⟨H1, H2, H3⟩
  isplitl [H1]; · iexact H1
  isplitl [H3]; · iexact H3
  iexact H2

omit [FloatOps F] in
theorem places_eq (c : Dev nD) : (bigSep Finset.univ fun k : Fin 7 => (atPos ER (kcell (c, k)) 0 ∅ 0 : sProp 𝕄)) ⊢ places c := by
  unfold places
  rw [bigSep_fin7, bigSep_fin3, bigSep_fin3]
  iintro ⟨H0, H1, H2, H3, H4, H5, H6⟩
  isplitl [H0]; · iexact H0
  isplitl [H1 H2 H3]
  · isplitl [H1]; · iexact H1
    isplitl [H2]; · iexact H2
    iexact H3
  · isplitl [H4]; · iexact H4
    isplitl [H5]; · iexact H5
    iexact H6

omit [FloatOps F] in
theorem places_all : (bigSep Finset.univ fun c : Dev nD => bigSep Finset.univ fun k : Fin 7 => (atPos ER (kcell (c, k)) 0 ∅ 0 : sProp 𝕄))
    ⊢ bigSep Finset.univ fun c : Dev nD => places c := bigSep_mono fun c _ => places_eq c

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_dealt (F := F)) $$ Htok
  ihave Hpl := (places_all (F := F)) $$ Hat
  iapply (bigSep_with_persistent (R := records m K) fun c _ => ghost_intro m K c)
  isplitr
  · unfold records; isplitl; · iexact HI
    iexact HR
  · iapply (Entails.of_eq (bigSep_sep' Finset.univ (fun c : Dev nD => (places c : sProp 𝕄)) payToks).symm)
    isplitl [Hpl]; · iexact Hpl
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem tally_bar (d c : Dev nD) (n : ℕ) : (tallyAt (barCell d) () n : CellTallies nD τ sig Unit) (barCell c) () = if d = c then n else 0 := by
  rw [tallyAt_apply]
  by_cases h : d = c
  · subst h; rw [if_pos ⟨rfl, rfl⟩, if_pos rfl]
  · rw [if_neg h, if_neg (fun h' => h (congrArg (fun g : GSem nD τ sig => g.1.1) h'.1).symm)]
theorem tally_recv (d c : Dev nD) (i j : Fin 3) (n : ℕ) :
    (tallyAt (recvCell d i) () n : CellTallies nD τ sig Unit) (recvCell c j) () = if d = c ∧ i = j then n else 0 := by
  rw [tallyAt_apply]
  by_cases h : d = c ∧ i = j
  · obtain ⟨rfl, rfl⟩ := h; rw [if_pos ⟨rfl, rfl⟩, if_pos ⟨rfl, rfl⟩]
  · rw [if_neg h, if_neg (fun h' => h ⟨(congrArg (fun g : GSem nD τ sig => g.1.1) h'.1).symm, (recv_inj (congrArg Prod.snd h'.1)).symm⟩)]
theorem tally_bar_recv (d c : Dev nD) (j : Fin 3) (n : ℕ) : (tallyAt (barCell d) () n : CellTallies nD τ sig Unit) (recvCell c j) () = 0 := by
  rw [tallyAt_apply]; exact if_neg (fun h' => recv_ne_bar j (congrArg Prod.snd h'.1))
theorem tally_recv_bar (d c : Dev nD) (j : Fin 3) (n : ℕ) : (tallyAt (recvCell d j) () n : CellTallies nD τ sig Unit) (barCell c) () = 0 := by
  rw [tallyAt_apply]; exact if_neg (fun h' => recv_ne_bar j (congrArg Prod.snd h'.1).symm)

theorem owed_bar (d c : Dev nD) :
    O₀ d (barCell c) () = (if fwd 2 d = c then 1 else 0) + (if fwd 1 d = c then 1 else 0) + (if fwd 0 d = c then 1 else 0) := by
  unfold O₀ owed5 owed4 owed3 owed2 owed1
  simp only [Pi.add_apply, Finsupp.add_apply, tally_bar, tally_recv_bar, Nat.zero_add]
theorem owed_recv (d c : Dev nD) (j : Fin 3) :
    O₀ d (recvCell c j) () = (if fwd 2 d = c ∧ opp 2 = j then N else 0) + (if fwd 1 d = c ∧ opp 1 = j then N else 0) + (if fwd 0 d = c ∧ opp 0 = j then N else 0) := by
  unfold O₀ owed5 owed4 owed3 owed2 owed1
  simp only [Pi.add_apply, Finsupp.add_apply, tally_bar_recv, tally_recv, Nat.add_zero]

/-- Over the four devices, exactly one reaches `c` by each step, -/
theorem sum_bar (c : Dev nD) : (∑ d : Dev nD, ((if fwd 2 d = c then 1 else 0) + (if fwd 1 d = c then 1 else 0) + (if fwd 0 d = c then 1 else 0))) = 3 := by
  revert c; decide
/-- and one fills each slot. -/
theorem sum_recv (c : Dev nD) (j : Fin 3) (n : ℕ) :
    (∑ d : Dev nD, ((if fwd 2 d = c ∧ opp 2 = j then n else 0) + (if fwd 1 d = c ∧ opp 1 = j then n else 0) + (if fwd 0 d = c ∧ opp 0 = j then n else 0))) = n := by
  have h : ∀ (c : Dev nD) (j : Fin 3), (∑ d : Dev nD, ((if fwd 2 d = c ∧ opp 2 = j then 1 else 0) + (if fwd 1 d = c ∧ opp 1 = j then 1 else 0) + (if fwd 0 d = c ∧ opp 0 = j then 1 else 0))) = 1 := by decide
  have h' := congrArg (· * n) (h c j)
  simpa only [Finset.sum_mul, Nat.add_mul, ite_mul, Nat.one_mul, Nat.zero_mul] using h'

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, sum_bar]
theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, sum_recv]

/-- Device `c` holds the credit of everything the others owe it. -/
theorem credits_of (c : Dev nD) : (Pipeline.launchCred O₀ c : sProp 𝕄) ⊢ credits c := by
  unfold Pipeline.launchCred credits
  have hsub : (Finset.univ : Finset (Fin 4)).image (fun k : Fin 4 => csem (match k with | 0 => 0 | 1 => kRecv 0 | 2 => kRecv 1 | 3 => kRecv 2))
      ⊆ (Finset.univ : Finset (SemLoc sig)) := Finset.subset_univ _
  rw [bigSep_univ_at _ (SemLoc.reg barS), launch_bar]
  refine sep_mono_right ?_
  rw [bigSep_fin3, bigSep_erase (i := SemLoc.dma (recvS 0)) (Finset.mem_erase.mpr ⟨recv_ne_bar 0, Finset.mem_univ _⟩)]
  rw [bigSep_erase (i := SemLoc.dma (recvS 1)) (Finset.mem_erase.mpr ⟨fun h => absurd (recv_inj h) (by decide), Finset.mem_erase.mpr ⟨recv_ne_bar 1, Finset.mem_univ _⟩⟩)]
  rw [launch_recv, launch_recv]
  refine sep_mono_right (sep_mono_right ?_)
  rw [← launch_recv]
  exact bigSep_elim (Finset.mem_erase.mpr ⟨fun h => absurd (recv_inj h) (by decide), Finset.mem_erase.mpr ⟨fun h => absurd (recv_inj h) (by decide),
    Finset.mem_erase.mpr ⟨recv_ne_bar 2, Finset.mem_univ _⟩⟩⟩)

/-! ## The run -/

/-- The argument that the kernel does not read. -/
def unread (c : Dev nD) : sProp 𝕄 := (((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ unread m c) := by
  rw [Pipeline.unscopedRestP_none, unscopedRest0_eq]
  iintro ⟨Hu, Hlev, Hcr, -, HG⟩
  ihave Hc := (credits_of (F := F) c) $$ Hcr
  imodintro
  unfold start G' unread
  isplitr [Hu]
  · isplitl [HG]; · iexact HG
    isplitl [Hc]; · iexact Hc
    iexact Hlev
  · iexact Hu

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩, Hb⟩
  isplitl [Hs]; · iexact Hs
  isplitl [Hr]
  · iexists f; rw [stPts_whole]; iexact Hr
  iexact Hb

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, ownSems0_eq, unscopedSems0_eq]
  unfold Φ₁
  rw [bigSep_fin3, bigSep_fin3]
  iintro ⟨⟨%f, Hr⟩, Hb, HB, ⟨S0, S1, S2⟩, R0, R1, R2⟩
  isplitl [HB]; · iexact HB
  isplitl [S0 S1 S2 R0 R1 R2]
  · isplitl [S0]; · iexact S0
    isplitl [S1]; · iexact S1
    isplitl [S2]; · iexact S2
    isplitl [R0]; · iexact R0
    isplitl [R1]; · iexact R1
    iexact R2
  isplitl [Hr]
  · iexists f; rw [← stPts_whole]; iexact Hr
  iexact Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the windows' arrays hold at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := unread m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold unread
      iintro ⟨Hu, H1, HSI⟩
      icombine HSI H1 gives %h1
      imod (Pipeline.unscopedSems0_read (X := unscopedSems0 c) (c := c) fupd_intro s') $$ [Hu HSI] with ⟨%h0, HSI⟩
      · isplitl [Hu] <;> iassumption
      imodintro
      isplitr; · ipureintro; exact ⟨h0, Buf.eq_of_forall_mem_univ h1⟩
      iexact HSI)
    (hQ := fun _ h hs => ⟨fun c => ⟨fun w => (h c).1 w, (h c).2.2.2⟩, sem_eq_zero hs fun c => (h c).2.2.1⟩)

/-- An array read through a window is what it was. -/
theorem finalA_in (c : Dev nD) (w : Fin cfg0.W) (hw : (cfg0.win w).isOut = false) :
    finalA m c w = m ((cfg0.win w).arr.view.loc (c : Thread nD τ)) := (dats (F := F) m 0 c).arrAt_in w hw _

/-- The result array holds what the body left in the staging buffer: its one block is the whole of it. -/
theorem finalA_out (c : Dev nD) : finalA m c (3 : Fin 4) = outAt m c := by
  have h : (win0_3.blk (0 : Fin 1)).view.read (Elt F) (finalA m c (3 : Fin 4)) = outAt m c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (by funext a; fin_cases a <;> rfl) _ _).symm.trans h

/-- The run, read array by array. -/
theorem run_arrays : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨((h.1 c).1 (3 : Fin 4)).trans (finalA_out m c), ((h.1 c).1 (0 : Fin 4)).trans (finalA_in m c 0 rfl),
    (h.1 c).2, ((h.1 c).1 (1 : Fin 4)).trans (finalA_in m c 1 rfl), ((h.1 c).1 (2 : Fin 4)).trans (finalA_in m c 2 rfl)⟩, h.2⟩) (run_main m ρ)

end Cert.KernelIdeal.Exchange

end
-- ==== Proof.Words.lean ====
/-
Words and counts: a comparison's bit as an extended real, a product with such a bit, a sum of them as a count; and
a running sum of words down the rows of an array, as a count.
-/
module

public import Idealize.ShloMosaic.Lib.Pointwise
public import Idealize.ShloMosaic.Lib.Routing.Ops
public import Mathlib.Data.Nat.Count

@[expose] public section

noncomputable section

namespace Cert.Words

open Idealize.ShloMosaic

/-! ## Bits as extended reals -/

theorem bit_eq (a b : BitVec 32) :
    FloatOps.sitofp (F := Ideal) .f32 (BitVec.setWidth 32 (IntOp.cmpi .eq a b)) = if a = b then (1 : EReal) else 0 := by
  by_cases h : a = b
  · subst h; simp [IntOp.cmpi, FloatOps.sitofp]
  · have h' : (a == b) = false := beq_eq_false_iff_ne.mpr h
    simp [h, h', IntOp.cmpi, FloatOps.sitofp]

theorem bit_gt (i t : Fin 256) :
    FloatOps.sitofp (F := Ideal) .f32 (BitVec.setWidth 32 (IntOp.cmpi .sgt (BitVec.ofNat 32 i.val) (BitVec.ofNat 32 t.val)))
      = if t.val < i.val then (1 : EReal) else 0 := by
  have e : BitVec.slt (BitVec.ofNat 32 t.val) (BitVec.ofNat 32 i.val) = decide (t.val < i.val) := by
    have ht := t.isLt; have hi := i.isLt
    rw [BitVec.slt, BitVec.toInt_eq_toNat_of_lt (by simp; omega), BitVec.toInt_eq_toNat_of_lt (by simp; omega)]
    simp only [BitVec.toNat_ofNat, Nat.cast_lt]
    rw [Nat.mod_eq_of_lt (by omega), Nat.mod_eq_of_lt (by omega)]
  by_cases h : t.val < i.val <;> simp [h, e, IntOp.cmpi, FloatOps.sitofp]

/-- A small count below the capacity, as words and as numbers. -/
theorem slt_capacity (k : ℕ) (hk : k ≤ 1024) : BitVec.slt (BitVec.ofNat 32 k) 102#32 = decide (k < 102) := by
  rw [BitVec.slt, BitVec.toInt_eq_toNat_of_lt (by simp; omega), BitVec.toInt_eq_toNat_of_lt (by decide)]
  simp only [BitVec.toNat_ofNat, Nat.cast_lt]
  rw [Nat.mod_eq_of_lt (by omega), Nat.mod_eq_of_lt (by omega)]

theorem bit_prop (p : Prop) [Decidable p] :
    FloatOps.sitofp (F := Ideal) .f32 (BitVec.setWidth 32 (BitVec.ofBool (decide p))) = if p then (1 : EReal) else 0 := by
  by_cases h : p <;> simp [h, FloatOps.sitofp]

/-- The pattern of the capacity. -/
theorem capacity : Ideal.ofBits .f32 0x42CC0000#32 = ((102 : ℕ) : EReal) := by
  rw [show ((102 : ℕ) : EReal) = ((102 : ℝ) : EReal) by norm_cast]
  simp [Ideal.ofBits, Ideal.ieee, -EReal.coe_mul]; norm_num

/-- Rows multiplied by a bit before a product: the product, or zero. -/
theorem sum_bit {K : ℕ} (x w : Fin K → EReal) (p : Prop) [Decidable p] :
    (∑ k, x k * (if p then (1 : EReal) else 0) * w k) = if p then ∑ k, x k * w k else 0 := by
  by_cases h : p <;> simp [h]

/-- A one-hot row picks its lane. -/
theorem pick (v : BitVec 32) (e : Fin 256) (h : v = BitVec.ofNat 32 e.val) (g : Fin 256 → EReal) :
    (∑ l : Fin 256, (if v = BitVec.ofNat 32 l.val then (1 : EReal) else 0) * g l) = g e := by
  rw [Finset.sum_eq_single e]
  · rw [if_pos h, one_mul]
  · intro l _ hl
    rw [if_neg, zero_mul]
    intro h'
    apply hl
    have := congrArg BitVec.toNat (h.symm.trans h')
    simp only [BitVec.toNat_ofNat] at this
    have h1 := l.isLt; have h2 := e.isLt
    exact Fin.ext (by omega)
  · exact fun h' => absurd (Finset.mem_univ _) h'

/-! ## Counts -/

/-- A column of words as a function of a row number. -/
def col {N : ℕ} (v : Fin N → BitVec 32) (t : ℕ) : BitVec 32 := if h : t < N then v ⟨t, h⟩ else 0#32

theorem col_fin {N : ℕ} (v : Fin N → BitVec 32) (t : Fin N) : col v t.val = v t := dif_pos t.isLt

/-- The number of the first `n` entries of a column that are `w`. -/
def hits {N : ℕ} (v : Fin N → BitVec 32) (w : BitVec 32) (n : ℕ) : ℕ := Nat.count (fun t => col v t = w) n

theorem hits_le {N : ℕ} (v : Fin N → BitVec 32) (w : BitVec 32) (n : ℕ) : hits v w n ≤ n := Nat.count_le _

/-- A sum of bits over the rows below `n` is a count. -/
theorem sum_hits {N : ℕ} (v : Fin N → BitVec 32) (w : BitVec 32) (n : ℕ) (hn : n ≤ N) :
    (∑ t : Fin N, (if t.val < n then (1 : EReal) else 0) * (if v t = w then (1 : EReal) else 0)) = ((hits v w n : ℕ) : EReal) := by
  have h : ∀ t : Fin N, (if t.val < n then (1 : EReal) else 0) * (if v t = w then (1 : EReal) else 0)
      = (((fun k : ℕ => if k < n ∧ col v k = w then 1 else 0) t.val : ℕ) : EReal) := by
    intro t
    rw [← col_fin v t]
    by_cases h1 : t.val < n <;> by_cases h2 : col v t.val = w <;> simp [h1, h2]
  rw [Finset.sum_congr rfl fun t _ => h t, ← Nat.cast_sum, Fin.sum_univ_eq_sum_range (fun k : ℕ => if k < n ∧ col v k = w then 1 else 0) N, Finset.sum_boole, hits, Nat.count_eq_card_filter_range]
  refine congrArg (Nat.cast : ℕ → EReal) ((Nat.cast_id _).trans (congrArg Finset.card (Finset.ext fun k => ?_)))
  simp only [Finset.mem_filter, Finset.mem_range]
  exact ⟨fun h => h.2, fun h => ⟨Nat.lt_of_lt_of_le h.1 hn, h⟩⟩

theorem sum_hits_all {N : ℕ} (v : Fin N → BitVec 32) (w : BitVec 32) :
    (∑ t : Fin N, (if v t = w then (1 : EReal) else 0)) = ((hits v w N : ℕ) : EReal) := by
  rw [← sum_hits v w N le_rfl]
  exact Finset.sum_congr rfl fun t _ => by rw [if_pos t.isLt, one_mul]

/-- The sum of a property's bits over the first numbers is the count of those that have it. -/
theorem list_count (P : ℕ → Prop) [DecidablePred P] (n : ℕ) : ((List.range n).map fun t => if P t then 1 else 0).sum = Nat.count P n := by
  induction n with
  | zero => rfl
  | succ n ih => rw [List.range_succ, List.map_append, List.sum_append, ih, Nat.count_succ]; simp

/-! ## The running sum -/

open Routing in
/-- `jnp.cumsum` down the rows, as it prints: a window of all the rows, padded in front by one less.  Where the entries of
    lane `e` hold the bits of a property, entry `j` counts the rows up to and including `j` that have it. -/
theorem running (x : IVec (⟨2, ![1024, 8]⟩ : Shape) 32) (e : Fin 8) (P : ℕ → Prop) [DecidablePred P]
    (hx : ∀ t : Fin 1024, x (ix2 t e) = BitVec.ofNat 32 (if P t.val then 1 else 0)) (init : IVec (⟨0, ![]⟩ : Shape) 32) (hinit : ∀ i, init i = 0#32)
    (h : (⟨2, ![1024, 8]⟩ : Shape).ReduceWindows (![1024, 1] : Fin 2 → Nat) ![1, 1] ![1023, 0] ![0, 0] ⟨2, ![1024, 8]⟩)
    (hu : 0 < (⟨0, ![]⟩ : Shape).numel) (j : Fin 1024) :
    Host.reduceWindow IntOp.addi ![1024, 1] ![1, 1] ![1023, 0] ![0, 0] x init h hu (ix2 j e) = BitVec.ofNat 32 (Nat.count P (j.val + 1)) := by
  have hN : (⟨2, ![1024, 1]⟩ : Shape).numel = 1024 := by decide
  have hpos : ∀ n : Fin (⟨2, ![1024, 1]⟩ : Shape).numel, (⟨2, ![1024, 1]⟩ : Shape).rowMajor.symm n = ix2 (n.cast hN) 0 := fun n =>
    ((⟨2, ![1024, 1]⟩ : Shape).rowMajor.symm_apply_eq).2 (Fin.ext (by rw [Shape.rowMajor_val_two]; show n.val = n.val * 1 + 0; omega))
  have hj := j.isLt; have he := e.isLt
  unfold Host.reduceWindow
  refine (foldl_addi_ofNat _ _ (fun n => if 1023 ≤ j.val + n.val then (if P (j.val + n.val - 1023) then 1 else 0) else 0) (fun n _ => ?_) _ 0 (hinit _)).trans ?_
  · have hn : n.val < 1024 := (n.cast hN).isLt
    dsimp only
    by_cases hc : 1023 ≤ j.val + n.val
    · rw [dif_pos (by
          intro a
          match a with
          | ⟨0, _⟩ =>
            show 1023 ≤ j.val * 1 + ((⟨2, ![1024, 1]⟩ : Shape).rowMajor.symm n 0).val ∧ j.val * 1 + ((⟨2, ![1024, 1]⟩ : Shape).rowMajor.symm n 0).val - 1023 < 1024
            rw [hpos]; show 1023 ≤ j.val * 1 + n.val ∧ j.val * 1 + n.val - 1023 < 1024; omega
          | ⟨1, _⟩ =>
            show 0 ≤ e.val * 1 + ((⟨2, ![1024, 1]⟩ : Shape).rowMajor.symm n 1).val ∧ e.val * 1 + ((⟨2, ![1024, 1]⟩ : Shape).rowMajor.symm n 1).val - 0 < 8
            rw [hpos]; show 0 ≤ e.val * 1 + 0 ∧ e.val * 1 + 0 - 0 < 8; omega), if_pos hc]
      refine (congrArg x (funext fun a => Fin.ext ?_)).trans (hx ⟨j.val + n.val - 1023, by omega⟩)
      match a with
      | ⟨0, _⟩ =>
        show j.val * 1 + ((⟨2, ![1024, 1]⟩ : Shape).rowMajor.symm n 0).val - 1023 = j.val + n.val - 1023
        rw [hpos]; show j.val * 1 + n.val - 1023 = j.val + n.val - 1023; omega
      | ⟨1, _⟩ =>
        show e.val * 1 + ((⟨2, ![1024, 1]⟩ : Shape).rowMajor.symm n 1).val - 0 = e.val
        rw [hpos]; show e.val * 1 + 0 - 0 = e.val; omega
    · rw [dif_neg (fun hin => hc (by
          have h0 : 1023 ≤ j.val * 1 + ((⟨2, ![1024, 1]⟩ : Shape).rowMajor.symm n 0).val := (hin 0).1
          rw [hpos] at h0
          have h1 : 1023 ≤ j.val * 1 + n.val := h0
          omega)), if_neg hc]
      exact hinit _
  · rw [Nat.zero_add, map_finRange_val _ (fun w => if 1023 ≤ j.val + w then (if P (j.val + w - 1023) then 1 else 0) else 0), hN]
    refine congrArg (BitVec.ofNat 32) ((sum_window (fun t => if P t then 1 else 0) 1023 j.val (by omega)).trans ?_)
    exact list_count P _

end Cert.Words

end
-- ==== Proof.KernelIdealValue.lean ====
/-
What a device computes, element by element, over the extended reals.  The kernel multiplies a token's row by a bit
before each of the eight products; so the sum of the products is one product, that of the expert the token is
routed to, or zero.  A one-hot row picks that expert's lane of the counts: the tokens before this one on the device,
and the histograms of the devices before it.
-/
module

public import proofs.«01_k».proof.Proof.KernelIdealRounds
public import proofs.«01_k».proof.Proof.Words

@[expose] public section

noncomputable section

namespace Cert.KernelIdeal.Values

open Cert.KernelIdeal Cert.KernelIdeal.Gen Cert.KernelIdeal.Exchange Cert.Words Idealize.ShloMosaic Idealize.ShloMosaic.TcCoe Idealize.SL Idealize.SL.Sem

set_option maxRecDepth 16384

/-! ## The kernel's operations at an index -/

/-- Row `i` of `x`, if its route is the word `e`, times column `n` of an expert's matrix. -/
def routed (x : FVec Ideal S256x128 .bf16) (r : IVec S256x1 32) (i n : Fin 256) (e : BitVec 32) (w : Fin 128 → Fin 256 → EReal) : EReal :=
  if r (ix2 i 0) = e then ∑ k : Fin 128, x (ix2 i k) * w k n else 0

theorem pay2_eq (x : Vec Ideal S256x128 .bf16) : k0_pay2 x = x := by
  funext y; rw [eq_ix2 y]; pointwise [k0_pay2]
theorem pay3_eq (r : Vec Ideal S256x1 .i32) : k0_pay3 r = r := by
  funext y; rw [eq_ix2 y]; pointwise [k0_pay3]

theorem pay6_apply (w : Vec Ideal S1x128x256 .bf16) (k : Fin 128) (n : Fin 256) : k0_pay6 w (ix2 k n) = w (ix3 0 k n) := by pointwise [k0_pay6]
theorem pay7_apply (w : Vec Ideal S1x128x256 .bf16) (k : Fin 128) (n : Fin 256) : k0_pay7 w (ix2 k n) = w (ix3 0 k n) := by pointwise [k0_pay7]

/-- The place that the kernel computes from the sum `o`: its remainder by four. -/
def wrap (o : BitVec 32) : BitVec 32 :=
  let n : BitVec 32 := Scalar.select (Scalar.cmpi .eq 4#32 0#32) 1#32 4#32
  Scalar.select (Scalar.andi (Scalar.xori (Scalar.cmpi .slt (Scalar.remsi o n) 0#32) (Scalar.cmpi .slt n 0#32)) (Scalar.cmpi .ne (Scalar.remsi o n) 0#32))
    (Scalar.addi (Scalar.remsi o n) n) (Scalar.remsi o n)

/-- The place `s + 1` steps on from place `p`. -/
def stepW (p s : BitVec 32) : BitVec 32 := wrap (Scalar.addi (Scalar.addi p s) 1#32)

theorem pay11_apply (p : BitVec 32) (x : FVec Ideal S256x128 .bf16) (r : IVec S256x1 32) (w w' : Vec Ideal S128x256 .bf16) (i n : Fin 256) :
    k0_pay11 p x r (k0_pay9 (F := Ideal)) (k0_pay10 p) w w' (ix2 i n)
      = routed x r i n (Scalar.addi (Scalar.muli 2#32 p) 0#32) (fun k n => w (ix2 k n)) + routed x r i n (Scalar.addi (Scalar.muli 2#32 p) 1#32) (fun k n => w' (ix2 k n)) := by
  unfold routed
  pointwise [k0_pay11, k0_pay9, k0_pay10]
  simp only [bit_eq, sum_bit]

theorem pay15_apply (x : FVec Ideal S256x128 .bf16) (r : IVec S256x1 32) (acc : FVec Ideal S256x256 .f32) (o : BitVec 32) (w : Vec Ideal S1x128x256 .bf16) (i n : Fin 256) :
    k0_pay15 x r acc o w (ix2 i n) = acc (ix2 i n) + routed x r i n (Scalar.addi (Scalar.muli 2#32 (wrap o)) 0#32) (fun k n => w (ix3 0 k n)) := by
  unfold routed wrap
  pointwise [k0_pay15]
  simp only [bit_eq, sum_bit]

theorem pay17_apply (x : FVec Ideal S256x128 .bf16) (r : IVec S256x1 32) (acc : FVec Ideal S256x256 .f32) (o : BitVec 32) (w : Vec Ideal S1x128x256 .bf16) (i n : Fin 256) :
    k0_pay17 acc (k0_pay16 x r o) w (ix2 i n) = acc (ix2 i n) + routed x r i n (Scalar.addi (Scalar.muli 2#32 (wrap o)) 1#32) (fun k n => w (ix3 0 k n)) := by
  unfold routed wrap
  pointwise [k0_pay17, k0_pay16]
  simp only [bit_eq, sum_bit]

theorem pay20_apply (p : BitVec 32) (x : FVec Ideal S256x128 .bf16) (r : IVec S256x1 32) (acc : FVec Ideal S256x256 .f32) (a : BitVec 32) (w w' : Vec Ideal S1x128x256 .bf16) (i n : Fin 256) :
    k0_pay20 x r acc a (k0_pay19 p r) w w' (ix2 i n) = acc (ix2 i n)
      + routed x r i n (Scalar.addi (Scalar.muli 2#32 (stepW p 2#32)) 0#32) (fun k n => w (ix3 0 k n))
      + routed x r i n (Scalar.addi (Scalar.muli 2#32 a) 1#32) (fun k n => w' (ix3 0 k n)) := by
  unfold routed stepW wrap
  pointwise [k0_pay20, k0_pay19]
  simp only [bit_eq, sum_bit]

theorem pay21_apply (x : FVec Ideal S256x128 .bf16) (r : IVec S256x1 32) (acc : FVec Ideal S256x256 .f32) (a b : BitVec 32) (u v t : BitVec 1)
    (w w' : Vec Ideal S1x128x256 .bf16) (i n : Fin 256) :
    k0_pay21 x r acc a b u v t w w' (ix2 i n) = acc (ix2 i n)
      + routed x r i n (Scalar.addi (Scalar.muli 2#32 (Scalar.select (Scalar.andi (Scalar.xori v t) u) (Scalar.addi b a) b)) 0#32) (fun k n => w (ix3 0 k n))
      + routed x r i n (Scalar.addi (Scalar.muli 2#32 (Scalar.select (Scalar.andi (Scalar.xori v t) u) (Scalar.addi b a) b)) 1#32) (fun k n => w' (ix3 0 k n)) := by
  unfold routed
  pointwise [k0_pay21]
  simp only [bit_eq, sum_bit]

/-- A device's histogram counts if its place is below `p`. -/
def below (w p : BitVec 32) : EReal := (((Scalar.extui (Scalar.cmpi .slt w p) : BitVec 32).toInt : ℝ) : EReal)

theorem pay14_apply (p o : BitVec 32) (h : Vec Ideal S1x1x256 .bf16) (l : Fin 256) :
    k0_pay14 p (k0_pay13 (F := Ideal)) o h (ix2 0 l) = 0 + below (wrap o) p * h (ix3 0 0 l) := by
  unfold below wrap
  pointwise [k0_pay14, k0_pay13]

theorem pay18_apply (p : BitVec 32) (acc : FVec Ideal S1x256 .f32) (h : Vec Ideal S1x1x256 .bf16) (l : Fin 256) :
    k0_pay18 p acc h (ix2 0 l) = acc (ix2 0 l) + below (stepW p 2#32) p * h (ix3 0 0 l) := by
  unfold below stepW wrap
  pointwise [k0_pay18]

theorem pay4_apply (r : Vec Ideal S256x1 .i32) (i l : Fin 256) : k0_pay4 (F := Ideal) r (ix2 i l) = if r (ix2 i 0) = BitVec.ofNat 32 l.val then 1 else 0 := by
  pointwise [k0_pay4, k0_pay3]
  rw [bit_eq]

/-- The routes of a device, as a column. -/
def routes (r : IVec S256x1 32) : Fin 256 → BitVec 32 := fun t => r (ix2 t 0)

theorem pay5_apply (r : Vec Ideal S256x1 .i32) (n : Fin 256) :
    k0_pay5 (F := Ideal) r (ix2 0 n) = ((hits (routes r) (BitVec.ofNat 32 n.val) 256 : ℕ) : EReal) := by
  rw [← sum_hits_all]
  pointwise [k0_pay5, k0_pay4, k0_pay3]
  simp only [bit_eq]
  rfl

theorem pay12_apply (r : Vec Ideal S256x1 .i32) (i e : Fin 256) (h : r (ix2 i 0) = BitVec.ofNat 32 e.val) :
    k0_pay12 (F := Ideal) (k0_pay4 r) (ix2 i 0) = ((hits (routes r) (BitVec.ofNat 32 e.val) i.val : ℕ) : EReal) := by
  rw [← sum_hits _ _ _ i.isLt.le]
  pointwise [k0_pay12, k0_pay4, k0_pay3]
  simp only [bit_eq, bit_gt]
  exact pick _ e h fun l => ∑ t : Fin 256, (if t.val < i.val then (1 : EReal) else 0) * (if r (ix2 t 0) = BitVec.ofNat 32 l.val then (1 : EReal) else 0)

theorem pay22_apply (p : BitVec 32) (oh : FVec Ideal S256x256 .f32) (q : FVec Ideal S256x1 .f32) (h : FVec Ideal S1x256 .f32) (a b : BitVec 32) (u v t : BitVec 1)
    (g : Vec Ideal S1x1x256 .bf16) (i : Fin 256) :
    k0_pay22 p oh q h a b u v t g (ix2 i 0) = q (ix2 i 0)
      + ∑ l : Fin 256, oh (ix2 i l) * (h (ix2 0 l) + below (Scalar.select (Scalar.andi (Scalar.xori v t) u) (Scalar.addi b a) b) p * g (ix3 0 0 l)) := by
  unfold below
  pointwise [k0_pay22]

theorem pay1_apply (acc : FVec Ideal S256x256 .f32) (q : FVec Ideal S256x1 .f32) (i n : Fin 256) :
    k0_pay1 acc q (ix2 i n) = acc (ix2 i n) * (if q (ix2 i 0) < ((102 : ℕ) : EReal) then 1 else 0) := by
  pointwise [k0_pay1]
  simp only [bit_prop, capacity]

/-! ## The staged block -/

theorem ewRead0_apply (w : (cc0_stg2_0 : Ref sig .tc).ty.Contents (Elt Ideal)) (k : Fin 128) (n : Fin 256) : ewRead0 w (ix3 0 k n) = w (ix3 0 k n) := by
  refine congrArg w (funext fun a => Fin.ext ?_)
  match a with
  | 0 => rfl
  | 1 => show 0 + 1 * k.val = k.val; omega
  | 2 => show 0 + 1 * n.val = n.val; omega
theorem ewRead1_apply (w : (cc0_stg2_0 : Ref sig .tc).ty.Contents (Elt Ideal)) (k : Fin 128) (n : Fin 256) : ewRead1 w (ix3 0 k n) = w (ix3 1 k n) := by
  refine congrArg w (funext fun a => Fin.ext ?_)
  match a with
  | 0 => rfl
  | 1 => show 0 + 1 * k.val = k.val; omega
  | 2 => show 0 + 1 * n.val = n.val; omega

theorem pay8_apply (h : FVec Ideal S1x256 .f32) (w : Vec Ideal S256x256 .bf16) (i : Fin 257) (n : Fin 256) :
    k0_pay8 h w (ix2 i n) = if q : i.val < 256 then w (ix2 ⟨i.val, q⟩ n) else h (ix2 0 n) := by
  pointwise [k0_pay8]
  by_cases q : i.val < 256
  · rw [dif_pos q, dif_pos q]
  · rw [dif_neg q, dif_neg q]
    exact congrArg h (congrArg (fun z : Fin 1 => ix2 z n) (Subsingleton.elim _ _))

variable (m : (ℓ : Loc nD τ sig) → Buf (Elt Ideal) ℓ)

/-- Expert `j` of device `d`. -/
def expert (d : Dev nD) (j : Fin 2) : Fin 128 → Fin 256 → EReal := fun k n => ewAt m d (ix3 j k n)

theorem stage_low (d : Dev nD) (k : Fin 128) (n : Fin 256) (h : k.val < 257) : stageAt m d (ix2 ⟨k.val, h⟩ n) = expert m d 0 k n := by
  refine (pay8_apply _ _ _ _).trans ?_
  rw [dif_pos (by show k.val < 256; omega)]
  refine (dif_pos k.isLt).trans ?_
  exact (pay6_apply _ _ _).trans (ewRead0_apply _ _ _)
theorem stage_high (d : Dev nD) (k : Fin 128) (n : Fin 256) (h : 128 + k.val < 257) : stageAt m d (ix2 ⟨128 + k.val, h⟩ n) = expert m d 1 k n := by
  refine (pay8_apply _ _ _ _).trans ?_
  rw [dif_pos (by show 128 + k.val < 256; omega)]
  refine (dif_neg (by show ¬ 128 + k.val < 128; omega)).trans ?_
  refine (pay7_apply _ _ _).trans ((ewRead1_apply _ _ _).trans ?_)
  exact congrArg (ewAt m d) (congrArg (fun k => ix3 (1 : Fin 2) k n) (Fin.ext (by show 128 + k.val - 128 = k.val; omega)))
theorem stage_hist (d : Dev nD) (n : Fin 256) : stageAt m d (ix2 (256 : Fin 257) n) = ((hits (routes (rtAt m d)) (BitVec.ofNat 32 n.val) 256 : ℕ) : EReal) := by
  refine (pay8_apply _ _ _ _).trans ?_
  rw [dif_neg (by decide)]
  exact pay5_apply _ _

theorem expOf0_apply (d : Dev nD) (k : Fin 128) (n : Fin 256) : expOf0 (stageAt m d) (ix3 0 k n) = expert m d 0 k n := by
  rw [← stage_low m d k n (by omega)]
  exact congrArg (stageAt m d) (funext fun a => match a with | 0 => rfl | 1 => rfl)
theorem expOf1_apply (d : Dev nD) (k : Fin 128) (n : Fin 256) : expOf1 (stageAt m d) (ix3 0 k n) = expert m d 1 k n := by
  rw [← stage_high m d k n (by omega)]
  exact congrArg (stageAt m d) (funext fun a => match a with | 0 => rfl | 1 => rfl)
theorem histOf_apply (d : Dev nD) (n : Fin 256) : histOf (stageAt m d) (ix3 0 0 n) = ((hits (routes (rtAt m d)) (BitVec.ofNat 32 n.val) 256 : ℕ) : EReal) := by
  rw [← stage_hist m d n]
  exact congrArg (stageAt m d) (funext fun a => match a with | 0 => rfl | 1 => rfl)
theorem ownExp0_apply (d : Dev nD) (k : Fin 128) (n : Fin 256) : ownExp0 (stageAt m d) (ix2 k n) = expert m d 0 k n := by
  rw [← stage_low m d k n (by omega)]
  refine congrArg (stageAt m d) (funext fun a => Fin.ext ?_)
  match a with
  | 0 => show 0 + 1 * k.val = k.val; omega
  | 1 => show 0 + 1 * n.val = n.val; omega
theorem ownExp1_apply (d : Dev nD) (k : Fin 128) (n : Fin 256) : ownExp1 (stageAt m d) (ix2 k n) = expert m d 1 k n := by
  rw [← stage_high m d k n (by omega)]
  refine congrArg (stageAt m d) (funext fun a => Fin.ext ?_)
  match a with
  | 0 => show 128 + 1 * k.val = 128 + k.val; omega
  | 1 => show 0 + 1 * n.val = n.val; omega

/-! ## The words of the places -/

theorem even_own (c : Dev nD) : Scalar.addi (Scalar.muli 2#32 (placeW c)) 0#32 = BitVec.ofNat 32 (2 * c.val) := by revert c; decide
theorem odd_own (c : Dev nD) : Scalar.addi (Scalar.muli 2#32 (placeW c)) 1#32 = BitVec.ofNat 32 (2 * c.val + 1) := by revert c; decide
theorem step_own (c : Dev nD) (j : Fin 3) : stepW (placeW c) (BitVec.ofNat 32 j.val) = placeW (fwd j c) := by revert c j; decide
theorem below_own (c d : Dev nD) : below (placeW d) (placeW c) = if d < c then 1 else 0 := by
  have h : (Scalar.extui (Scalar.cmpi .slt (placeW d) (placeW c)) : BitVec 32).toInt = if d < c then 1 else 0 := by revert c d; decide
  unfold below
  rw [h]
  split <;> simp

/-- A device and the three it hears from are all the devices. -/
theorem sum_ring (c : Dev nD) (f : Dev nD → EReal) : f c + f (fwd 0 c) + f (fwd 2 c) + f (fwd 1 c) = ∑ d, f d := by
  rw [show (∑ d, f d) = f 0 + f 1 + f 2 + f 3 from Fin.sum_univ_four f]
  revert c
  intro c
  match c with
  | 0 => show f 0 + f 1 + f 3 + f 2 = _; ac_rfl
  | 1 => show f 1 + f 2 + f 0 + f 3 = _; ac_rfl
  | 2 => show f 2 + f 3 + f 1 + f 0 = _; ac_rfl
  | 3 => show f 3 + f 0 + f 2 + f 1 = _; ac_rfl

/-! ## The result -/

/-- The product of row `i` of device `c` with expert `j` of device `d`, if it is routed there. -/
def share (c : Dev nD) (i n : Fin 256) (d : Dev nD) (j : Fin 2) : EReal :=
  routed (xAt m c) (rtAt m c) i n (BitVec.ofNat 32 (2 * d.val + j.val)) (expert m d j)

/-- The number of tokens of the devices before `c` that are routed to `w`. -/
def earlier (c : Dev nD) (w : BitVec 32) : ℕ := ∑ d : Dev nD, if d < c then hits (routes (rtAt m d)) w 256 else 0

theorem prior_eq (c : Dev nD) (l : Fin 256) :
    0 + below (placeW (fwd 0 c)) (placeW c) * histOf (stageAt m (fwd 0 c)) (ix3 0 0 l) + below (placeW (fwd 2 c)) (placeW c) * histOf (stageAt m (fwd 2 c)) (ix3 0 0 l)
      + below (placeW (fwd 1 c)) (placeW c) * histOf (stageAt m (fwd 1 c)) (ix3 0 0 l) = ((earlier m c (BitVec.ofNat 32 l.val) : ℕ) : EReal) := by
  have h (d : Dev nD) : below (placeW d) (placeW c) * histOf (stageAt m d) (ix3 0 0 l)
      = (((if d < c then hits (routes (rtAt m d)) (BitVec.ofNat 32 l.val) 256 else 0 : ℕ)) : EReal) := by
    rw [below_own, histOf_apply]
    split <;> simp
  rw [h, h, h, earlier, Nat.cast_sum, ← sum_ring c]
  congr 3
  simp

/-- A device's result at an index, whatever the route: the eight shares added up, times the bit of a count below 102. -/
theorem outAt_apply (c : Dev nD) (i n : Fin 256) : outAt m c (ix2 i n)
    = (∑ d : Dev nD, (share m c i n d 0 + share m c i n d 1))
      * (if k0_pay12 (F := Ideal) (k0_pay4 (rtAt m c)) (ix2 i 0)
          + ∑ l : Fin 256, (if rtAt m c (ix2 i 0) = BitVec.ofNat 32 l.val then 1 else 0) * ((earlier m c (BitVec.ofNat 32 l.val) : ℕ) : EReal) < ((102 : ℕ) : EReal)
         then 1 else 0) := by
  have hs0 (d : Dev nD) : routed (xAt m c) (rtAt m c) i n (Scalar.addi (Scalar.muli 2#32 (placeW d)) 0#32) (expert m d 0) = share m c i n d 0 := by
    rw [even_own]; rfl
  have hs1 (d : Dev nD) : routed (xAt m c) (rtAt m c) i n (Scalar.addi (Scalar.muli 2#32 (placeW d)) 1#32) (expert m d 1) = share m c i n d 1 := by
    rw [odd_own]; rfl
  have e0 (d : Dev nD) : (fun k n => expOf0 (stageAt m d) (ix3 0 k n)) = expert m d 0 := funext fun k => funext fun n => expOf0_apply m d k n
  have e1 (d : Dev nD) : (fun k n => expOf1 (stageAt m d) (ix3 0 k n)) = expert m d 1 := funext fun k => funext fun n => expOf1_apply m d k n
  have o0 : (fun k n => ownExp0 (stageAt m c) (ix2 k n)) = expert m c 0 := funext fun k => funext fun n => ownExp0_apply m c k n
  have o1 : (fun k n => ownExp1 (stageAt m c) (ix2 k n)) = expert m c 1 := funext fun k => funext fun n => ownExp1_apply m c k n
  have t0 : stepW (placeW c) 0#32 = placeW (fwd 0 c) := step_own c 0
  have t1 : stepW (placeW c) 1#32 = placeW (fwd 1 c) := step_own c 1
  have t2 : stepW (placeW c) 2#32 = placeW (fwd 2 c) := step_own c 2
  simp only [← prior_eq]
  rw [← sum_ring c]
  unfold outAt resultOf
  refine (pay1_apply _ _ _ _).trans ?_
  congr 1
  · rw [pay21_apply, pay20_apply, pay17_apply, pay15_apply, pay11_apply]
    change _ + routed _ _ _ _ (Scalar.addi (Scalar.muli 2#32 (stepW (placeW c) 0#32)) 0#32) _ + routed _ _ _ _ (Scalar.addi (Scalar.muli 2#32 (stepW (placeW c) 0#32)) 1#32) _ + _
      + routed _ _ _ _ (Scalar.addi (Scalar.muli 2#32 (stepW (placeW c) 2#32)) 1#32) _ + routed _ _ _ _ (Scalar.addi (Scalar.muli 2#32 (stepW (placeW c) 1#32)) 0#32) _
        + routed _ _ _ _ (Scalar.addi (Scalar.muli 2#32 (stepW (placeW c) 1#32)) 1#32) _ = _
    rw [pay2_eq, pay3_eq, t0, t1, t2, e0, e1, e0, e1, e0, e1, o0, o1]
    simp only [hs0, hs1]
    simp only [add_assoc]
  · rw [pay22_apply]
    refine if_congr (Eq.to_iff (congrArg (· < ((102 : ℕ) : EReal)) (congrArg _ (Finset.sum_congr rfl fun l _ => ?_)))) rfl rfl
    rw [pay4_apply, pay18_apply, pay14_apply]
    change _ * (_ + below (stepW (placeW c) 0#32) _ * _ + _ + below (stepW (placeW c) 1#32) _ * _) = _
    rw [t0, t1, t2]

end Cert.KernelIdeal.Values

end
-- ==== Proof.ReferenceIdealValue.lean ====
/-
What the reference computes, element by element: a token routed to expert `e` that fewer than 102 earlier tokens
went to gets its product with that expert; every other token gets zero.
-/
module

public import proofs.«01_k».proof.Proof.Gen.ReferenceIdeal.Run
public import proofs.«01_k».proof.Proof.Words

@[expose] public section

noncomputable section

namespace Cert.ReferenceIdeal.Values

open Cert.ReferenceIdeal Cert.ReferenceIdeal.Gen Cert.ReferenceIdeal.Value Cert.Words Idealize.ShloMosaic Idealize.ShloMosaic.TcCoe Idealize.SL.Sem

set_option maxRecDepth 16384

/-- The routes, as a column. -/
def routes (r : IVec S1024x1 32) : Fin 1024 → BitVec 32 := fun t => r (ix2 t 0)

/-- The one-hot words of the routes. -/
def onehot (r : IVec S1024x1 32) : IVec S1024x8 32 :=
  extui 32 (cmpi .eq (broadcastInDim S1024x8 ![0, 1] bcast_S1024x1_S1024x8_0_1 r)
    (broadcastInDim S1024x8 ![0, 1] bcast_S1x8_S1024x8_0_1 (broadcastInDim S1x8 ![1] bcast_S8_S1x8_1 (iotaInDim S8 32 0)))) natLt_1_32

theorem onehot_apply (r : IVec S1024x1 32) (t : Fin 1024) (e : Fin 8) :
    onehot r (ix2 t e) = BitVec.ofNat 32 (if col (routes r) t.val = BitVec.ofNat 32 e.val then 1 else 0) := by
  rw [col_fin]
  have h : onehot r (ix2 t e) = BitVec.setWidth 32 (IntOp.cmpi .eq (routes r t) (BitVec.ofNat 32 e.val)) := by
    unfold onehot routes
    pointwise
  rw [h]
  by_cases hc : routes r t = BitVec.ofNat 32 e.val
  · rw [if_pos hc, hc]; simp [IntOp.cmpi]
  · have hb : (routes r t == BitVec.ofNat 32 e.val) = false := beq_eq_false_iff_ne.mpr hc
    rw [if_neg hc]; simp [IntOp.cmpi, hb]

/-- The reference's running sum of the one-hot words counts. -/
theorem running_apply (r : IVec S1024x1 32) (i : Fin 1024) (e : Fin 8) :
    Host.reduceWindow IntOp.addi ![1024, 1] ![1, 1] ![1023, 0] ![0, 0] (onehot r) (broadcastInDim S_ ![] bcast_S_S_ (constantI S_ 32 0#32))
        reduceWindows_S1024x8_S1024x8_w1024s1p1023_0_w1s1p0_0 h_S_ (ix2 i e)
      = BitVec.ofNat 32 (hits (routes r) (BitVec.ofNat 32 e.val) (i.val + 1)) :=
  running _ e (fun t => col (routes r) t = BitVec.ofNat 32 e.val) (fun t => onehot_apply r t e) _ (fun _ => rfl) _ _ i

/-- The condition of an expert's word `w` for a token routed to `v` after `k` earlier ones, as one choice. -/
theorem chosen (v w : BitVec 32) (k : ℕ) (hk : k ≤ 1024) (a b : EReal) :
    Scalar.select (IntOp.andi (IntOp.cmpi .eq v w) (IntOp.cmpi .slt (IntOp.subi (BitVec.ofNat 32 (k + if v = w then 1 else 0))
      (BitVec.setWidth 32 (IntOp.cmpi .eq v w))) 102#32)) a b = if v = w ∧ k < 102 then a else b := by
  by_cases h : v = w
  · subst h
    have h1 : IntOp.cmpi .eq v v = 1#1 := by simp [IntOp.cmpi]
    have h2 : IntOp.subi (BitVec.ofNat 32 (k + 1)) (BitVec.setWidth 32 1#1) = BitVec.ofNat 32 k := by
      rw [BitVec.ofNat_add]; exact BitVec.add_sub_cancel _ _
    rw [if_pos rfl, h1, h2, show IntOp.cmpi .slt (BitVec.ofNat 32 k) 102#32 = BitVec.ofBool (decide (k < 102)) from congrArg BitVec.ofBool (slt_capacity k hk)]
    by_cases hc : k < 102 <;> simp [hc, Scalar.select, IntOp.andi]
  · have hb : (v == w) = false := beq_eq_false_iff_ne.mpr h
    have h1 : IntOp.cmpi .eq v w = 0#1 := by simp [IntOp.cmpi, hb]
    have h2 (x : BitVec 1) : IntOp.andi 0#1 x = 0#1 := BitVec.zero_and
    rw [h1, h2]
    simp [h, Scalar.select]

/-- One expert's term of the reference's sum. -/
theorem term_apply (r : IVec S1024x1 32) (i : Fin 1024) (e : Fin 8) (a : EReal) :
    Scalar.select (IntOp.andi (IntOp.cmpi .eq (r (ix2 i 0)) (BitVec.ofNat 32 e.val)) (IntOp.cmpi .slt (IntOp.subi
      (Host.reduceWindow IntOp.addi ![1024, 1] ![1, 1] ![1023, 0] ![0, 0] (onehot r) (broadcastInDim S_ ![] bcast_S_S_ (constantI S_ 32 0#32))
        reduceWindows_S1024x8_S1024x8_w1024s1p1023_0_w1s1p0_0 h_S_ (ix2 i e))
      (BitVec.setWidth 32 (IntOp.cmpi .eq (r (ix2 i 0)) (BitVec.ofNat 32 e.val)))) 102#32)) a ((id (constant S_ FTy.f32 0#32) : FVec Ideal S_ .f32) ix0)
      = if routes r i = BitVec.ofNat 32 e.val ∧ hits (routes r) (BitVec.ofNat 32 e.val) i.val < 102 then a else 0 := by
  have hz : (id (constant S_ FTy.f32 0#32) : FVec Ideal S_ .f32) ix0 = 0 := by pointwise [id]
  have hh : hits (routes r) (BitVec.ofNat 32 e.val) (i.val + 1)
      = hits (routes r) (BitVec.ofNat 32 e.val) i.val + if r (ix2 i 0) = BitVec.ofNat 32 e.val then 1 else 0 := by
    unfold hits; rw [Nat.count_succ, col_fin]; rfl
  rw [running_apply, hh, hz]
  exact chosen _ _ _ ((hits_le _ _ _).trans i.isLt.le) _ _

variable (m : (ℓ : Loc nD τ sig) → Buf (Elt Ideal) ℓ)

/-- The arguments, by their shapes. -/
abbrev argX (c : Dev nD) : FVec Ideal S1024x128 .bf16 := m ((c.tc : Thread nD τ).loc main_arg0)
abbrev argR (c : Dev nD) : IVec S1024x1 32 := m ((c.tc : Thread nD τ).loc main_arg2)
abbrev argW (c : Dev nD) : FVec Ideal S8x128x256 .bf16 := m ((c.tc : Thread nD τ).loc main_arg3)

/-- A token's product with expert `e`, at one of the result's columns. -/
def product (c : Dev nD) (i : Fin 1024) (n : Fin 256) (e : Fin 8) : EReal := ∑ k : Fin 128, argX m c (ix2 i k) * argW m c (ix3 e k n)

/-- Expert `e`'s part of the result. -/
def part (c : Dev nD) (i : Fin 1024) (n : Fin 256) (e : Fin 8) : EReal :=
  if routes (argR m c) i = BitVec.ofNat 32 e.val ∧ hits (routes (argR m c)) (BitVec.ofNat 32 e.val) i.val < 102 then product m c i n e else 0

/-- The result is the sum of the experts' parts. -/
theorem result_apply (c : Dev nD) (i : Fin 1024) (n : Fin 256) : res_out0 m c (ix2 i n) = ∑ e : Fin 8, part m c i n e := by
  unfold part product
  simp only [← term_apply]
  rw [Fin.sum_univ_eight]
  unfold onehot
  pointwise [res_main_v59]

end Cert.ReferenceIdeal.Values

end
-- ==== Proof.Equation.lean ====
/-
The equation: device `c`'s result is block `c` of the reference's.  Row `256 c + i` of the whole is row `i` of device
`c`, and expert `2 d + j` is expert `j` of device `d`; so the two sums over the experts have the same terms.  A token's
earlier ones in the whole column are those of the devices before its own and those before it on its own, which is
what the kernel adds up; so both keep the same tokens.
-/
module

public import proofs.«01_k».proof.Proof.KernelIdealValue
public import proofs.«01_k».proof.Proof.ReferenceIdealValue
public import Idealize.ShloMosaic.Lib.Layout

@[expose] public section

noncomputable section

namespace Cert.Equation

open Cert.Words Idealize.ShloMosaic

/-! ## Counting in blocks -/

/-- Past the blocks before it, the whole column counts as block `d` does. -/
theorem hits_block (v : Fin 1024 → BitVec 32) (u : Fin 256 → BitVec 32) (w : BitVec 32) (d : Fin 4)
    (h : ∀ t : Fin 256, u t = v ⟨256 * d.val + t.val, by omega⟩) (k : ℕ) (hk : k ≤ 256) :
    hits v w (256 * d.val + k) = hits v w (256 * d.val) + hits u w k := by
  induction k with
  | zero => simp [hits]
  | succ k ih =>
    have e : col v (256 * d.val + k) = col u k := by
      rw [show k = (⟨k, hk⟩ : Fin 256).val from rfl, col_fin, h]
      exact col_fin v ⟨256 * d.val + k, by omega⟩
    have ih := ih (by omega)
    unfold hits at ih ⊢
    rw [← add_assoc, Nat.count_succ, Nat.count_succ, ih, e, add_assoc]

/-- A count up to row `i` of block `c`: the blocks before `c`, and the rows before `i` in it. -/
theorem hits_split (v : Fin 1024 → BitVec 32) (u : Fin 4 → Fin 256 → BitVec 32) (w : BitVec 32)
    (h : ∀ d (t : Fin 256), u d t = v ⟨256 * d.val + t.val, by omega⟩) (c : Fin 4) (i : Fin 256) :
    hits v w (256 * c.val + i.val) = hits (u c) w i.val + ∑ d : Fin 4, if d < c then hits (u d) w 256 else 0 := by
  have b (d : Fin 4) := hits_block v (u d) w d (h d) 256 le_rfl
  have b0 : hits v w 256 = hits (u 0) w 256 := by simpa [hits] using b 0
  have b1 : hits v w 512 = hits (u 0) w 256 + hits (u 1) w 256 := (b 1).trans (congrArg (· + _) b0)
  have b2 : hits v w 768 = hits (u 0) w 256 + hits (u 1) w 256 + hits (u 2) w 256 := (b 2).trans (congrArg (· + _) b1)
  rw [hits_block v (u c) w c (h c) i.val i.isLt.le, add_comm]
  congr 1
  rw [Fin.sum_univ_four]
  match c with
  | 0 => simp [hits]
  | 1 => simpa using b0
  | 2 => simpa using b1
  | 3 => simpa using b2

/-! ## The arrays -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

open Cert.KernelIdeal.Exchange Cert.KernelIdeal.Values Cert.ReferenceIdeal.Values

/-- Row `i` of device `c` in the whole. -/
def row (c : Fin 4) (i : Fin 256) : Fin 1024 := ⟨256 * c.val + i.val, by omega⟩
/-- Expert `j` of device `d` in the whole. -/
def slab (d : Fin 4) (j : Fin 2) : Fin 8 := ⟨2 * d.val + j.val, by omega⟩

/-- The devices hold the blocks of the reference's arguments. -/
structure Shards : Prop where
  x (c : Fin 4) (i : Fin 256) (k : Fin 128) : xAt m c (ix2 i k) = argX m' 0 (ix2 (row c i) k)
  r (c : Fin 4) (i : Fin 256) : rtAt m c (ix2 i 0) = argR m' 0 (ix2 (row c i) 0)
  w (d : Fin 4) (j : Fin 2) (k : Fin 128) (n : Fin 256) : expert m d j k n = argW m' 0 (ix3 (slab d j) k n)

/-- Blocks of the whole arrays, read through the devices' staging buffers, are such shards. -/
theorem shards (h : ∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (argX m' 0)
      ∧ m ((c.tc : Thread Cert.KernelIdeal.nD Cert.KernelIdeal.τ).loc Cert.KernelIdeal.main_arg2) = Layout.block ⟨2, ![256, 1]⟩ ⟨2, ![1024, 1]⟩ 0 4 c (argR m' 0)
      ∧ m ((c.tc : Thread Cert.KernelIdeal.nD Cert.KernelIdeal.τ).loc Cert.KernelIdeal.main_arg3) = Layout.block ⟨3, ![2, 128, 256]⟩ ⟨3, ![8, 128, 256]⟩ 0 4 c (argW m' 0)) :
    Shards m m' where
  x c i k := by
    unfold xAt
    rw [(h c).1]
    refine congrArg (argX m' 0) (funext fun a => Fin.ext ?_)
    match a with
    | 0 => show c.val * 256 + (0 + 1 * i.val) = 256 * c.val + i.val; omega
    | 1 => show 0 + 1 * k.val = k.val; omega
  r c i := by
    unfold rtAt
    rw [(h c).2.1]
    refine congrArg (argR m' 0) (funext fun a => Fin.ext ?_)
    match a with
    | 0 => show c.val * 256 + (0 + 1 * i.val) = 256 * c.val + i.val; omega
    | 1 => rfl
  w d j k n := by
    unfold expert ewAt
    rw [(h d).2.2]
    refine congrArg (argW m' 0) (funext fun a => Fin.ext ?_)
    match a with
    | 0 => show d.val * 2 + (0 + 1 * j.val) = 2 * d.val + j.val; omega
    | 1 => show 0 + 1 * k.val = k.val; omega
    | 2 => show 0 + 1 * n.val = n.val; omega

variable {m m'}

/-- The product of one expert for a token routed to it, without the limit. -/
def sent (m' : (ℓ : Loc Cert.ReferenceIdeal.nD Cert.ReferenceIdeal.τ Cert.ReferenceIdeal.sig) → Buf (Elt Ideal) ℓ) (i : Fin 1024) (n : Fin 256) (e : Fin 8) : EReal :=
  if argR m' 0 (ix2 i 0) = BitVec.ofNat 32 e.val then product m' 0 i n e else 0

theorem share_eq (s : Shards m m') (c : Fin 4) (i n : Fin 256) (d : Fin 4) (j : Fin 2) : share m c i n d j = sent m' (row c i) n (slab d j) := by
  unfold share routed sent product
  rw [s.r]
  simp only [s.x, s.w]
  rfl

/-- The devices' two experts each are the eight. -/
theorem sum_pairs (f : Fin 8 → EReal) : (∑ d : Fin 4, (f (slab d 0) + f (slab d 1))) = ∑ e, f e := by
  rw [Fin.sum_univ_four, Fin.sum_univ_eight]
  show f 0 + f 1 + (f 2 + f 3) + (f 4 + f 5) + (f 6 + f 7) = _
  simp only [add_assoc]

/-- Two experts with one word are one. -/
theorem word_inj (e e' : Fin 8) : (BitVec.ofNat 32 e.val = BitVec.ofNat 32 e'.val) ↔ e' = e := by revert e e'; decide

/-- A product with a bit is a choice. -/
theorem limit (p : Prop) [Decidable p] (x : EReal) : x * (if p then 1 else 0) = if p then x else 0 := by
  by_cases h : p <;> simp [h]

/-- Device `c`'s result at row `i` is the reference's at row `256 c + i`. -/
theorem result_eq (s : Shards m m') (c : Fin 4) (i n : Fin 256) : outAt m c (ix2 i n) = Cert.ReferenceIdeal.Value.res_out0 m' 0 (ix2 (row c i) n) := by
  rw [outAt_apply, result_apply]
  simp only [share_eq s]
  rw [sum_pairs]
  by_cases he : ∃ e : Fin 8, argR m' 0 (ix2 (row c i) 0) = BitVec.ofNat 32 e.val
  · obtain ⟨e, he⟩ := he
    have hr : rtAt m c (ix2 i 0) = BitVec.ofNat 32 (e.castLE (by decide) : Fin 256).val := (s.r c i).trans he
    have hk := hits_split (Cert.ReferenceIdeal.Values.routes (argR m' 0)) (fun d => Cert.KernelIdeal.Values.routes (rtAt m d)) (BitVec.ofNat 32 e.val)
      (fun d t => s.r d t) c i
    rw [pay12_apply _ _ _ hr, pick _ _ hr, ← Nat.cast_add]
    have hs : (∑ e', sent m' (row c i) n e') = product m' 0 (row c i) n e := by
      rw [Finset.sum_eq_single e]
      · exact if_pos he
      · intro e' _ hne
        exact if_neg (fun h => hne ((word_inj e e').mp (he.symm.trans h)))
      · exact fun h => absurd (Finset.mem_univ _) h
    have hp : (∑ e', part m' 0 (row c i) n e') = if hits (Cert.ReferenceIdeal.Values.routes (argR m' 0)) (BitVec.ofNat 32 e.val) (row c i).val < 102 then product m' 0 (row c i) n e else 0 := by
      rw [Finset.sum_eq_single e]
      · exact if_congr (and_iff_right he) rfl rfl
      · intro e' _ hne
        exact if_neg (fun h => hne ((word_inj e e').mp (he.symm.trans h.1)))
      · exact fun h => absurd (Finset.mem_univ _) h
    rw [hs, hp, show (row c i).val = 256 * c.val + i.val from rfl, hk]
    simp only [Nat.cast_lt]
    show _ * (if hits _ _ _ + earlier m c (BitVec.ofNat 32 e.val) < 102 then (1 : EReal) else 0) = if _ + earlier m c (BitVec.ofNat 32 e.val) < 102 then _ else _
    exact limit _ _
  · have hs : (∑ e', sent m' (row c i) n e') = 0 := Finset.sum_eq_zero fun e' _ => if_neg fun h => he ⟨e', h⟩
    have hp : (∑ e', part m' 0 (row c i) n e') = 0 := Finset.sum_eq_zero fun e' _ => if_neg fun h => he ⟨e', h.1⟩
    rw [hs, hp, zero_mul]

/-- The same as one equation of arrays. -/
theorem block_eq (s : Shards m m') (c : Fin 4) : outAt m c = Layout.block ⟨2, ![256, 256]⟩ ⟨2, ![1024, 256]⟩ 0 4 c (Cert.ReferenceIdeal.Value.res_out0 m' 0) := by
  funext y
  rw [show y = ix2 (y 0 : Fin 256) (y 1 : Fin 256) from eq_ix2 y]
  refine (result_eq s c (y 0) (y 1)).trans ?_
  refine congrArg (Cert.ReferenceIdeal.Value.res_out0 m' 0) (funext fun a => Fin.ext ?_)
  match a with
  | 0 => show 256 * c.val + (y 0).val = c.val * 256 + (y 0).val; omega
  | 1 => rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Equation
public import Idealize.ShloMosaic.Adequacy
public import Idealize.ShloMosaic.Init

@[expose] public section

noncomputable section

namespace Cert.Proof

open Idealize.ShloMosaic Idealize.SL.Sem

/-- The kernel, on bit patterns. -/
theorem quiescent_kernel : Cert.quiescent_Kernel := by
  intro m ρ _
  exact (θ_run Cert.Kernel.defs _ _).mono (fun _ h => ⟨fun c => (h.1 c).2, h.2⟩) (Cert.Kernel.Exchange.run_arrays (F := Bits) m ρ)

/-- The kernel, over the extended reals. -/
theorem quiescent_kernelIdeal : Cert.quiescent_KernelIdeal := by
  intro m ρ _
  exact (θ_run Cert.KernelIdeal.defs _ _).mono (fun _ h => ⟨fun c => (h.1 c).2, h.2⟩) (Cert.KernelIdeal.Exchange.run_arrays (F := Ideal) m ρ)

/-- The reference declares no semaphore. -/
theorem quiescent_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Over the extended reals, every device's result is its block of the reference's result. -/
theorem algebraic : Cert.algebraic_KernelIdeal_ReferenceIdeal := by
  intro m ρ m' ρ' _ h
  refine ⟨Cert.ReferenceIdeal.Value.res_out0 m' 0, ?_, ?_⟩
  · refine (θ_run Cert.KernelIdeal.defs _ _).mono (fun _ hr c => ⟨(hr.1 c).1.trans ?_, (hr.1 c).2⟩) (Cert.KernelIdeal.Exchange.run_arrays (F := Ideal) m ρ)
    exact Cert.Equation.block_eq (Cert.Equation.shards m m' fun c => ⟨(h c).1, (h c).2.2.1, (h c).2.2.2⟩) c
  · exact (θ_run Cert.ReferenceIdeal.defs _ _).mono (fun _ hr => hr 0) (Cert.ReferenceIdeal.Value.run (F := Ideal) m' ρ')

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
